-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3072x1152 : Shape := ⟨3, ![4, 3072, 1152]⟩
abbrev S1152x7232 : Shape := ⟨2, ![1152, 7232]⟩
abbrev S18x14464 : Shape := ⟨2, ![18, 14464]⟩
abbrev S1152x64 : Shape := ⟨2, ![1152, 64]⟩
abbrev S64x14464 : Shape := ⟨2, ![64, 14464]⟩
abbrev S12288x1152 : Shape := ⟨2, ![12288, 1152]⟩
abbrev S12288x14464 : Shape := ⟨2, ![12288, 14464]⟩
abbrev S12288x576 : Shape := ⟨2, ![12288, 576]⟩
abbrev S12288x18 : Shape := ⟨2, ![12288, 18]⟩
abbrev S256x1152 : Shape := ⟨2, ![256, 1152]⟩
abbrev S256x14464 : Shape := ⟨2, ![256, 14464]⟩
abbrev S256x576 : Shape := ⟨2, ![256, 576]⟩
abbrev S256x18 : Shape := ⟨2, ![256, 18]⟩
abbrev S1216x14464 : Shape := ⟨2, ![1216, 14464]⟩
abbrev S256x1216 : Shape := ⟨2, ![256, 1216]⟩
abbrev S64x128 : Shape := ⟨2, ![64, 128]⟩
abbrev S16x128 : Shape := ⟨2, ![16, 128]⟩
abbrev S1x128 : Shape := ⟨2, ![1, 128]⟩
abbrev S16x128x1 : Shape := ⟨3, ![16, 128, 1]⟩
abbrev S64x64 : Shape := ⟨2, ![64, 64]⟩
abbrev S32x1152 : Shape := ⟨2, ![32, 1152]⟩
abbrev S32x128 : Shape := ⟨2, ![32, 128]⟩
abbrev S32 : Shape := ⟨1, ![32]⟩
abbrev S32x1 : Shape := ⟨2, ![32, 1]⟩
abbrev S8x128 : Shape := ⟨2, ![8, 128]⟩
abbrev S32x18 : Shape := ⟨2, ![32, 18]⟩
abbrev S8x128x1 : Shape := ⟨3, ![8, 128, 1]⟩
abbrev S32x64 : Shape := ⟨2, ![32, 64]⟩
abbrev S256x64 : Shape := ⟨2, ![256, 64]⟩
abbrev S4x3072x14464 : Shape := ⟨3, ![4, 3072, 14464]⟩
abbrev S4x3072x576 : Shape := ⟨3, ![4, 3072, 576]⟩
abbrev S4x3072x18 : Shape := ⟨3, ![4, 3072, 18]⟩

abbrev nBuf : Space → Nat
  | .hbm => 13
  | .vmem => 15
  | .smem => 0
  | _ => 0

abbrev bufTy : (tb : Table) → Fin (tcTables nBuf tb) → BufTy
  | .hbm, ⟨0, _⟩ => ⟨S4x3072x1152, .bf16⟩
  | .hbm, ⟨1, _⟩ => ⟨S1152x7232, .i8⟩
  | .hbm, ⟨2, _⟩ => ⟨S18x14464, .f32⟩
  | .hbm, ⟨3, _⟩ => ⟨S18x14464, .bf16⟩
  | .hbm, ⟨4, _⟩ => ⟨S1152x64, .bf16⟩
  | .hbm, ⟨5, _⟩ => ⟨S64x14464, .bf16⟩
  | .hbm, ⟨6, _⟩ => ⟨S12288x1152, .bf16⟩
  | .hbm, ⟨7, _⟩ => ⟨S12288x14464, .bf16⟩
  | .hbm, ⟨8, _⟩ => ⟨S12288x576, .i8⟩
  | .hbm, ⟨9, _⟩ => ⟨S12288x18, .f32⟩
  | .hbm, ⟨10, _⟩ => ⟨S4x3072x14464, .bf16⟩
  | .hbm, ⟨11, _⟩ => ⟨S4x3072x576, .i8⟩
  | .hbm, ⟨12, _⟩ => ⟨S4x3072x18, .f32⟩
  | .local _ .vmem, ⟨0, _⟩ => ⟨S256x1152, .bf16⟩
  | .local _ .vmem, ⟨1, _⟩ => ⟨S256x1152, .bf16⟩
  | .local _ .vmem, ⟨2, _⟩ => ⟨S1152x7232, .i8⟩
  | .local _ .vmem, ⟨3, _⟩ => ⟨S18x14464, .f32⟩
  | .local _ .vmem, ⟨4, _⟩ => ⟨S18x14464, .bf16⟩
  | .local _ .vmem, ⟨5, _⟩ => ⟨S1152x64, .bf16⟩
  | .local _ .vmem, ⟨6, _⟩ => ⟨S64x14464, .bf16⟩
  | .local _ .vmem, ⟨7, _⟩ => ⟨S256x14464, .bf16⟩
  | .local _ .vmem, ⟨8, _⟩ => ⟨S256x14464, .bf16⟩
  | .local _ .vmem, ⟨9, _⟩ => ⟨S256x576, .i8⟩
  | .local _ .vmem, ⟨10, _⟩ => ⟨S256x576, .i8⟩
  | .local _ .vmem, ⟨11, _⟩ => ⟨S256x18, .f32⟩
  | .local _ .vmem, ⟨12, _⟩ => ⟨S256x18, .f32⟩
  | .local _ .vmem, ⟨13, _⟩ => ⟨S1216x14464, .bf16⟩
  | .local _ .vmem, ⟨14, _⟩ => ⟨S256x1216, .bf16⟩
  | _, _ => ⟨S4x3072x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1561 : BitVec 32 := 0#32
  let c56_i32 : BitVec 32 := 56#32
  let v4920 : BitVec 32 := Scalar.addi c0_i32_1561 c56_i32
  let c1_i32_1562 : BitVec 32 := 1#32
  ⟨c0_i32_1561, v4920, c1_i32_1562⟩
def k0_mult1 (k0_t1 : Fin k0_t1_loop.trips) : BitVec 32 :=
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  v5951
def k0_mult2 (k0_t1 : Fin k0_t1_loop.trips) : BitVec 32 :=
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  v5953
def k0_off1 (k0_t1 : Fin k0_t1_loop.trips) : Fin 2 → Nat :=
  let c0_1921 : Index := 0#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v5955 : Index := Scalar.indexCast v5954
  ![0, v5955.toNat]
def k0_off2 (k0_t1 : Fin k0_t1_loop.trips) (c0_i32_1922 : BitVec 32) : Fin 2 → Nat :=
  let c0_1923 : Index := 0#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v5958 : BitVec 32 := Scalar.addi v5952 c0_i32_1922
  let v5959 : Index := Scalar.indexCast v5958
  ![0, v5959.toNat]
def k0_off3 (k0_t1 : Fin k0_t1_loop.trips) (c0_i32_1922 : BitVec 32) : Fin 2 → Nat :=
  let c0_1938 : Index := 0#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v5958 : BitVec 32 := Scalar.addi v5952 c0_i32_1922
  let v6012 : Index := Scalar.indexCast v5958
  ![0, v6012.toNat]
def k0_off4 (k0_t1 : Fin k0_t1_loop.trips) : Fin 2 → Nat :=
  let c64_1956 : Index := 64#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v6074 : Index := Scalar.indexCast v5954
  ![64, v6074.toNat]
def k0_off5 (k0_t1 : Fin k0_t1_loop.trips) (c0_i32_1957 : BitVec 32) : Fin 2 → Nat :=
  let c1_1958 : Index := 1#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v6077 : BitVec 32 := Scalar.addi v5952 c0_i32_1957
  let v6078 : Index := Scalar.indexCast v6077
  ![1, v6078.toNat]
def k0_off6 (k0_t1 : Fin k0_t1_loop.trips) (c0_i32_1957 : BitVec 32) : Fin 2 → Nat :=
  let c64_1973 : Index := 64#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v6077 : BitVec 32 := Scalar.addi v5952 c0_i32_1957
  let v6131 : Index := Scalar.indexCast v6077
  ![64, v6131.toNat]
def k0_off7 (k0_t1 : Fin k0_t1_loop.trips) : Fin 2 → Nat :=
  let c128_1991 : Index := 128#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v6193 : Index := Scalar.indexCast v5954
  ![128, v6193.toNat]
def k0_off8 (k0_t1 : Fin k0_t1_loop.trips) (c0_i32_1992 : BitVec 32) : Fin 2 → Nat :=
  let c2_1993 : Index := 2#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v6196 : BitVec 32 := Scalar.addi v5952 c0_i32_1992
  let v6197 : Index := Scalar.indexCast v6196
  ![2, v6197.toNat]
def k0_off9 (k0_t1 : Fin k0_t1_loop.trips) (c0_i32_1992 : BitVec 32) : Fin 2 → Nat :=
  let c128_2008 : Index := 128#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v6196 : BitVec 32 := Scalar.addi v5952 c0_i32_1992
  let v6250 : Index := Scalar.indexCast v6196
  ![128, v6250.toNat]
def k0_off10 (k0_t1 : Fin k0_t1_loop.trips) : Fin 2 → Nat :=
  let c192_2026 : Index := 192#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v6312 : Index := Scalar.indexCast v5954
  ![192, v6312.toNat]
def k0_off11 (k0_t1 : Fin k0_t1_loop.trips) (c0_i32_2027 : BitVec 32) : Fin 2 → Nat :=
  let c3_2028 : Index := 3#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v6315 : BitVec 32 := Scalar.addi v5952 c0_i32_2027
  let v6316 : Index := Scalar.indexCast v6315
  ![3, v6316.toNat]
def k0_off12 (k0_t1 : Fin k0_t1_loop.trips) (c0_i32_2027 : BitVec 32) : Fin 2 → Nat :=
  let c192_2043 : Index := 192#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v6315 : BitVec 32 := Scalar.addi v5952 c0_i32_2027
  let v6369 : Index := Scalar.indexCast v6315
  ![192, v6369.toNat]
def k0_off13 (k0_t1 : Fin k0_t1_loop.trips) : Fin 2 → Nat :=
  let c256_2061 : Index := 256#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v6431 : Index := Scalar.indexCast v5954
  ![256, v6431.toNat]
def k0_off14 (k0_t1 : Fin k0_t1_loop.trips) (c0_i32_2062 : BitVec 32) : Fin 2 → Nat :=
  let c4_2063 : Index := 4#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v6434 : BitVec 32 := Scalar.addi v5952 c0_i32_2062
  let v6435 : Index := Scalar.indexCast v6434
  ![4, v6435.toNat]
def k0_off15 (k0_t1 : Fin k0_t1_loop.trips) (c0_i32_2062 : BitVec 32) : Fin 2 → Nat :=
  let c256_2078 : Index := 256#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v6434 : BitVec 32 := Scalar.addi v5952 c0_i32_2062
  let v6488 : Index := Scalar.indexCast v6434
  ![256, v6488.toNat]
def k0_off16 (k0_t1 : Fin k0_t1_loop.trips) : Fin 2 → Nat :=
  let c320_2096 : Index := 320#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v6550 : Index := Scalar.indexCast v5954
  ![320, v6550.toNat]
def k0_off17 (k0_t1 : Fin k0_t1_loop.trips) (c0_i32_2097 : BitVec 32) : Fin 2 → Nat :=
  let c5_2098 : Index := 5#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v6553 : BitVec 32 := Scalar.addi v5952 c0_i32_2097
  let v6554 : Index := Scalar.indexCast v6553
  ![5, v6554.toNat]
def k0_off18 (k0_t1 : Fin k0_t1_loop.trips) (c0_i32_2097 : BitVec 32) : Fin 2 → Nat :=
  let c320_2113 : Index := 320#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v6553 : BitVec 32 := Scalar.addi v5952 c0_i32_2097
  let v6607 : Index := Scalar.indexCast v6553
  ![320, v6607.toNat]
def k0_off19 (k0_t1 : Fin k0_t1_loop.trips) : Fin 2 → Nat :=
  let c384_2131 : Index := 384#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v6669 : Index := Scalar.indexCast v5954
  ![384, v6669.toNat]
def k0_off20 (k0_t1 : Fin k0_t1_loop.trips) (c0_i32_2132 : BitVec 32) : Fin 2 → Nat :=
  let c6_2133 : Index := 6#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v6672 : BitVec 32 := Scalar.addi v5952 c0_i32_2132
  let v6673 : Index := Scalar.indexCast v6672
  ![6, v6673.toNat]
def k0_off21 (k0_t1 : Fin k0_t1_loop.trips) (c0_i32_2132 : BitVec 32) : Fin 2 → Nat :=
  let c384_2148 : Index := 384#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v6672 : BitVec 32 := Scalar.addi v5952 c0_i32_2132
  let v6726 : Index := Scalar.indexCast v6672
  ![384, v6726.toNat]
def k0_off22 (k0_t1 : Fin k0_t1_loop.trips) : Fin 2 → Nat :=
  let c448_2166 : Index := 448#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v6788 : Index := Scalar.indexCast v5954
  ![448, v6788.toNat]
def k0_off23 (k0_t1 : Fin k0_t1_loop.trips) (c0_i32_2167 : BitVec 32) : Fin 2 → Nat :=
  let c7_2168 : Index := 7#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v6791 : BitVec 32 := Scalar.addi v5952 c0_i32_2167
  let v6792 : Index := Scalar.indexCast v6791
  ![7, v6792.toNat]
def k0_off24 (k0_t1 : Fin k0_t1_loop.trips) (c0_i32_2167 : BitVec 32) : Fin 2 → Nat :=
  let c448_2183 : Index := 448#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v6791 : BitVec 32 := Scalar.addi v5952 c0_i32_2167
  let v6845 : Index := Scalar.indexCast v6791
  ![448, v6845.toNat]
def k0_off25 (k0_t1 : Fin k0_t1_loop.trips) : Fin 2 → Nat :=
  let c512_2201 : Index := 512#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v6907 : Index := Scalar.indexCast v5954
  ![512, v6907.toNat]
def k0_off26 (k0_t1 : Fin k0_t1_loop.trips) (c0_i32_2202 : BitVec 32) : Fin 2 → Nat :=
  let c8_2203 : Index := 8#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v6910 : BitVec 32 := Scalar.addi v5952 c0_i32_2202
  let v6911 : Index := Scalar.indexCast v6910
  ![8, v6911.toNat]
def k0_off27 (k0_t1 : Fin k0_t1_loop.trips) (c0_i32_2202 : BitVec 32) : Fin 2 → Nat :=
  let c512_2218 : Index := 512#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v6910 : BitVec 32 := Scalar.addi v5952 c0_i32_2202
  let v6964 : Index := Scalar.indexCast v6910
  ![512, v6964.toNat]
def k0_off28 (k0_t1 : Fin k0_t1_loop.trips) : Fin 2 → Nat :=
  let c576_2236 : Index := 576#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v7026 : Index := Scalar.indexCast v5954
  ![576, v7026.toNat]
def k0_off29 (k0_t1 : Fin k0_t1_loop.trips) (c0_i32_2237 : BitVec 32) : Fin 2 → Nat :=
  let c9_2238 : Index := 9#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7029 : BitVec 32 := Scalar.addi v5952 c0_i32_2237
  let v7030 : Index := Scalar.indexCast v7029
  ![9, v7030.toNat]
def k0_off30 (k0_t1 : Fin k0_t1_loop.trips) (c0_i32_2237 : BitVec 32) : Fin 2 → Nat :=
  let c576_2253 : Index := 576#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7029 : BitVec 32 := Scalar.addi v5952 c0_i32_2237
  let v7083 : Index := Scalar.indexCast v7029
  ![576, v7083.toNat]
def k0_off31 (k0_t1 : Fin k0_t1_loop.trips) : Fin 2 → Nat :=
  let c640_2271 : Index := 640#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v7145 : Index := Scalar.indexCast v5954
  ![640, v7145.toNat]
def k0_off32 (k0_t1 : Fin k0_t1_loop.trips) (c0_i32_2272 : BitVec 32) : Fin 2 → Nat :=
  let c10_2273 : Index := 10#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7148 : BitVec 32 := Scalar.addi v5952 c0_i32_2272
  let v7149 : Index := Scalar.indexCast v7148
  ![10, v7149.toNat]
def k0_off33 (k0_t1 : Fin k0_t1_loop.trips) (c0_i32_2272 : BitVec 32) : Fin 2 → Nat :=
  let c640_2288 : Index := 640#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7148 : BitVec 32 := Scalar.addi v5952 c0_i32_2272
  let v7202 : Index := Scalar.indexCast v7148
  ![640, v7202.toNat]
def k0_off34 (k0_t1 : Fin k0_t1_loop.trips) : Fin 2 → Nat :=
  let c704_2306 : Index := 704#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v7264 : Index := Scalar.indexCast v5954
  ![704, v7264.toNat]
def k0_off35 (k0_t1 : Fin k0_t1_loop.trips) (c0_i32_2307 : BitVec 32) : Fin 2 → Nat :=
  let c11_2308 : Index := 11#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7267 : BitVec 32 := Scalar.addi v5952 c0_i32_2307
  let v7268 : Index := Scalar.indexCast v7267
  ![11, v7268.toNat]
def k0_off36 (k0_t1 : Fin k0_t1_loop.trips) (c0_i32_2307 : BitVec 32) : Fin 2 → Nat :=
  let c704_2323 : Index := 704#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7267 : BitVec 32 := Scalar.addi v5952 c0_i32_2307
  let v7321 : Index := Scalar.indexCast v7267
  ![704, v7321.toNat]
def k0_off37 (k0_t1 : Fin k0_t1_loop.trips) : Fin 2 → Nat :=
  let c768_2341 : Index := 768#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v7383 : Index := Scalar.indexCast v5954
  ![768, v7383.toNat]
def k0_off38 (k0_t1 : Fin k0_t1_loop.trips) (c0_i32_2342 : BitVec 32) : Fin 2 → Nat :=
  let c12_2343 : Index := 12#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7386 : BitVec 32 := Scalar.addi v5952 c0_i32_2342
  let v7387 : Index := Scalar.indexCast v7386
  ![12, v7387.toNat]
def k0_off39 (k0_t1 : Fin k0_t1_loop.trips) (c0_i32_2342 : BitVec 32) : Fin 2 → Nat :=
  let c768_2358 : Index := 768#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7386 : BitVec 32 := Scalar.addi v5952 c0_i32_2342
  let v7440 : Index := Scalar.indexCast v7386
  ![768, v7440.toNat]
def k0_off40 (k0_t1 : Fin k0_t1_loop.trips) : Fin 2 → Nat :=
  let c832_2376 : Index := 832#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v7502 : Index := Scalar.indexCast v5954
  ![832, v7502.toNat]
def k0_off41 (k0_t1 : Fin k0_t1_loop.trips) (c0_i32_2377 : BitVec 32) : Fin 2 → Nat :=
  let c13_2378 : Index := 13#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7505 : BitVec 32 := Scalar.addi v5952 c0_i32_2377
  let v7506 : Index := Scalar.indexCast v7505
  ![13, v7506.toNat]
def k0_off42 (k0_t1 : Fin k0_t1_loop.trips) (c0_i32_2377 : BitVec 32) : Fin 2 → Nat :=
  let c832_2393 : Index := 832#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7505 : BitVec 32 := Scalar.addi v5952 c0_i32_2377
  let v7559 : Index := Scalar.indexCast v7505
  ![832, v7559.toNat]
def k0_off43 (k0_t1 : Fin k0_t1_loop.trips) : Fin 2 → Nat :=
  let c896_2411 : Index := 896#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v7621 : Index := Scalar.indexCast v5954
  ![896, v7621.toNat]
def k0_off44 (k0_t1 : Fin k0_t1_loop.trips) (c0_i32_2412 : BitVec 32) : Fin 2 → Nat :=
  let c14_2413 : Index := 14#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7624 : BitVec 32 := Scalar.addi v5952 c0_i32_2412
  let v7625 : Index := Scalar.indexCast v7624
  ![14, v7625.toNat]
def k0_off45 (k0_t1 : Fin k0_t1_loop.trips) (c0_i32_2412 : BitVec 32) : Fin 2 → Nat :=
  let c896_2428 : Index := 896#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7624 : BitVec 32 := Scalar.addi v5952 c0_i32_2412
  let v7678 : Index := Scalar.indexCast v7624
  ![896, v7678.toNat]
def k0_off46 (k0_t1 : Fin k0_t1_loop.trips) : Fin 2 → Nat :=
  let c960_2446 : Index := 960#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v7740 : Index := Scalar.indexCast v5954
  ![960, v7740.toNat]
def k0_off47 (k0_t1 : Fin k0_t1_loop.trips) (c0_i32_2447 : BitVec 32) : Fin 2 → Nat :=
  let c15_2448 : Index := 15#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7743 : BitVec 32 := Scalar.addi v5952 c0_i32_2447
  let v7744 : Index := Scalar.indexCast v7743
  ![15, v7744.toNat]
def k0_off48 (k0_t1 : Fin k0_t1_loop.trips) (c0_i32_2447 : BitVec 32) : Fin 2 → Nat :=
  let c960_2463 : Index := 960#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7743 : BitVec 32 := Scalar.addi v5952 c0_i32_2447
  let v7797 : Index := Scalar.indexCast v7743
  ![960, v7797.toNat]
def k0_off49 (k0_t1 : Fin k0_t1_loop.trips) : Fin 2 → Nat :=
  let c1024_2481 : Index := 1024#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v7859 : Index := Scalar.indexCast v5954
  ![1024, v7859.toNat]
def k0_off50 (k0_t1 : Fin k0_t1_loop.trips) (c0_i32_2482 : BitVec 32) : Fin 2 → Nat :=
  let c16_2483 : Index := 16#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7862 : BitVec 32 := Scalar.addi v5952 c0_i32_2482
  let v7863 : Index := Scalar.indexCast v7862
  ![16, v7863.toNat]
def k0_off51 (k0_t1 : Fin k0_t1_loop.trips) (c0_i32_2482 : BitVec 32) : Fin 2 → Nat :=
  let c1024_2498 : Index := 1024#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7862 : BitVec 32 := Scalar.addi v5952 c0_i32_2482
  let v7916 : Index := Scalar.indexCast v7862
  ![1024, v7916.toNat]
def k0_off52 (k0_t1 : Fin k0_t1_loop.trips) : Fin 2 → Nat :=
  let c1088_2516 : Index := 1088#32
  let c0_i32_1561 : BitVec 32 := 0#32
  let c1_i32_1562 : BitVec 32 := 1#32
  let arg12 : BitVec 32 := Scf.iv c0_i32_1561 c1_i32_1562 k0_t1
  let c128_i32_1920 : BitVec 32 := 128#32
  let v5953 : BitVec 32 := Scalar.muli arg12 c128_i32_1920
  let v5954 : BitVec 32 := v5953
  let v7978 : Index := Scalar.indexCast v5954
  ![1088, v7978.toNat]
def k0_off53 (k0_t1 : Fin k0_t1_loop.trips) (c0_i32_2517 : BitVec 32) : Fin 2 → Nat :=
  let c17_2518 : Index := 17#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7981 : BitVec 32 := Scalar.addi v5952 c0_i32_2517
  let v7982 : Index := Scalar.indexCast v7981
  ![17, v7982.toNat]
def k0_off54 (k0_t1 : Fin k0_t1_loop.trips) (c0_i32_2517 : BitVec 32) : Fin 2 → Nat :=
  let c1088_2533 : Index := 1088#32
  let c0_i32_1561 : BitVec 32 := 0#32
  let c1_i32_1562 : BitVec 32 := 1#32
  let arg12 : BitVec 32 := Scf.iv c0_i32_1561 c1_i32_1562 k0_t1
  let c256_i32 : BitVec 32 := 256#32
  let v5951 : BitVec 32 := Scalar.muli arg12 c256_i32
  let v5952 : BitVec 32 := v5951
  let v7981 : BitVec 32 := Scalar.addi v5952 c0_i32_2517
  let v8035 : Index := Scalar.indexCast v7981
  ![1088, v8035.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x7232 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S18x14464 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S18x14464 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1152x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x14464 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x14464 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x576 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x18 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x3072x1152 : Shape := ⟨3, ![4, 3072, 1152]⟩
abbrev S1152x7232 : Shape := ⟨2, ![1152, 7232]⟩
abbrev S18x14464 : Shape := ⟨2, ![18, 14464]⟩
abbrev S1152x64 : Shape := ⟨2, ![1152, 64]⟩
abbrev S64x14464 : Shape := ⟨2, ![64, 14464]⟩
abbrev S4x3072x18x64 : Shape := ⟨4, ![4, 3072, 18, 64]⟩
abbrev S_ : Shape := ⟨0, ![]⟩
abbrev S4x3072x18 : Shape := ⟨3, ![4, 3072, 18]⟩
abbrev S4x3072x18x1 : Shape := ⟨4, ![4, 3072, 18, 1]⟩
abbrev S1152x7232x1 : Shape := ⟨3, ![1152, 7232, 1]⟩
abbrev S1152x7232x2 : Shape := ⟨3, ![1152, 7232, 2]⟩
abbrev S1152x14464 : Shape := ⟨2, ![1152, 14464]⟩
abbrev S18x64x14464 : Shape := ⟨3, ![18, 64, 14464]⟩
abbrev S18x1x14464 : Shape := ⟨3, ![18, 1, 14464]⟩
abbrev S4x3072x64 : Shape := ⟨3, ![4, 3072, 64]⟩
abbrev S4x3072x1216 : Shape := ⟨3, ![4, 3072, 1216]⟩
abbrev S1216x14464 : Shape := ⟨2, ![1216, 14464]⟩
abbrev S4x3072x14464 : Shape := ⟨3, ![4, 3072, 14464]⟩
abbrev S4x3072x576x2 : Shape := ⟨4, ![4, 3072, 576, 2]⟩
abbrev S4x3072x576x1 : Shape := ⟨4, ![4, 3072, 576, 1]⟩
abbrev S4x3072x576 : Shape := ⟨3, ![4, 3072, 576]⟩

abbrev nBuf : Space → Nat
  | .hbm => 85
  | .vmem => 0
  | .smem => 0
  | _ => 0

abbrev bufTy : (tb : Table) → Fin (tcTables nBuf tb) → BufTy
  | .hbm, ⟨0, _⟩ => ⟨S4x3072x1152, .bf16⟩
  | .hbm, ⟨1, _⟩ => ⟨S1152x7232, .i8⟩
  | .hbm, ⟨2, _⟩ => ⟨S18x14464, .f32⟩
  | .hbm, ⟨3, _⟩ => ⟨S18x14464, .bf16⟩
  | .hbm, ⟨4, _⟩ => ⟨S1152x64, .bf16⟩
  | .hbm, ⟨5, _⟩ => ⟨S64x14464, .bf16⟩
  | .hbm, ⟨6, _⟩ => ⟨S4x3072x1152, .f32⟩
  | .hbm, ⟨7, _⟩ => ⟨S4x3072x18x64, .f32⟩
  | .hbm, ⟨8, _⟩ => ⟨S4x3072x18x64, .f32⟩
  | .hbm, ⟨9, _⟩ => ⟨S_, .f32⟩
  | .hbm, ⟨10, _⟩ => ⟨S4x3072x18, .f32⟩
  | .hbm, ⟨11, _⟩ => ⟨S_, .f32⟩
  | .hbm, ⟨12, _⟩ => ⟨S4x3072x18, .f32⟩
  | .hbm, ⟨13, _⟩ => ⟨S4x3072x18, .i1⟩
  | .hbm, ⟨14, _⟩ => ⟨S_, .f32⟩
  | .hbm, ⟨15, _⟩ => ⟨S4x3072x18, .f32⟩
  | .hbm, ⟨16, _⟩ => ⟨S4x3072x18, .f32⟩
  | .hbm, ⟨17, _⟩ => ⟨S_, .f32⟩
  | .hbm, ⟨18, _⟩ => ⟨S_, .f32⟩
  | .hbm, ⟨19, _⟩ => ⟨S4x3072x18, .f32⟩
  | .hbm, ⟨20, _⟩ => ⟨S4x3072x18, .f32⟩
  | .hbm, ⟨21, _⟩ => ⟨S4x3072x18x1, .f32⟩
  | .hbm, ⟨22, _⟩ => ⟨S4x3072x18x64, .f32⟩
  | .hbm, ⟨23, _⟩ => ⟨S4x3072x18x64, .f32⟩
  | .hbm, ⟨24, _⟩ => ⟨S4x3072x18x64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x3072x18x64, .f32⟩
  | .hbm, ⟨29, _⟩ => ⟨S4x3072x18x64, .f32⟩
  | .hbm, ⟨30, _⟩ => ⟨S_, .f32⟩
  | .hbm, ⟨31, _⟩ => ⟨S4x3072x18x64, .f32⟩
  | .hbm, ⟨32, _⟩ => ⟨S4x3072x18x64, .f32⟩
  | .hbm, ⟨33, _⟩ => ⟨S4x3072x18x64, .i32⟩
  | .hbm, ⟨34, _⟩ => ⟨S4x3072x1152, .i32⟩
  | .hbm, ⟨35, _⟩ => ⟨S4x3072x1152, .bf16⟩
  | .hbm, ⟨36, _⟩ => ⟨S4x3072x18x64, .bf16⟩
  | .hbm, ⟨37, _⟩ => ⟨S4x3072x18, .bf16⟩
  | .hbm, ⟨38, _⟩ => ⟨S4x3072x18x1, .bf16⟩
  | .hbm, ⟨39, _⟩ => ⟨S4x3072x18x64, .bf16⟩
  | .hbm, ⟨40, _⟩ => ⟨S4x3072x18x64, .bf16⟩
  | .hbm, ⟨41, _⟩ => ⟨S4x3072x1152, .bf16⟩
  | .hbm, ⟨42, _⟩ => ⟨S1152x7232, .i32⟩
  | .hbm, ⟨43, _⟩ => ⟨S_, .i32⟩
  | .hbm, ⟨44, _⟩ => ⟨S1152x7232, .i32⟩
  | .hbm, ⟨45, _⟩ => ⟨S1152x7232, .i32⟩
  | .hbm, ⟨46, _⟩ => ⟨S_, .i32⟩
  | .hbm, ⟨47, _⟩ => ⟨S1152x7232, .i32⟩
  | .hbm, ⟨48, _⟩ => ⟨S1152x7232, .i32⟩
  | .hbm, ⟨49, _⟩ => ⟨S1152x7232x1, .i32⟩
  | .hbm, ⟨50, _⟩ => ⟨S1152x7232x1, .i32⟩
  | .hbm, ⟨51, _⟩ => ⟨S1152x7232x2, .i32⟩
  | .hbm, ⟨52, _⟩ => ⟨S1152x14464, .i32⟩
  | .hbm, ⟨53, _⟩ => ⟨S1152x14464, .bf16⟩
  | .hbm, ⟨54, _⟩ => ⟨S18x64x14464, .bf16⟩
  | .hbm, ⟨55, _⟩ => ⟨S18x1x14464, .bf16⟩
  | .hbm, ⟨56, _⟩ => ⟨S18x64x14464, .bf16⟩
  | .hbm, ⟨57, _⟩ => ⟨S18x64x14464, .bf16⟩
  | .hbm, ⟨58, _⟩ => ⟨S18x14464, .bf16⟩
  | .hbm, ⟨59, _⟩ => ⟨S18x1x14464, .bf16⟩
  | .hbm, ⟨60, _⟩ => ⟨S18x64x14464, .bf16⟩
  | .hbm, ⟨61, _⟩ => ⟨S18x64x14464, .bf16⟩
  | .hbm, ⟨62, _⟩ => ⟨S1152x14464, .bf16⟩
  | .hbm, ⟨63, _⟩ => ⟨S4x3072x64, .f32⟩
  | .hbm, ⟨64, _⟩ => ⟨S4x3072x64, .bf16⟩
  | .hbm, ⟨65, _⟩ => ⟨S4x3072x1216, .bf16⟩
  | .hbm, ⟨66, _⟩ => ⟨S1216x14464, .bf16⟩
  | .hbm, ⟨67, _⟩ => ⟨S4x3072x14464, .f32⟩
  | .hbm, ⟨68, _⟩ => ⟨S4x3072x14464, .bf16⟩
  | .hbm, ⟨69, _⟩ => ⟨S4x3072x576x2, .i32⟩
  | .hbm, ⟨70, _⟩ => ⟨S4x3072x576x1, .i32⟩
  | .hbm, ⟨71, _⟩ => ⟨S4x3072x576, .i32⟩
  | .hbm, ⟨72, _⟩ => ⟨S_, .i32⟩
  | .hbm, ⟨73, _⟩ => ⟨S4x3072x576, .i32⟩
  | .hbm, ⟨74, _⟩ => ⟨S4x3072x576, .i32⟩
  | .hbm, ⟨75, _⟩ => ⟨S4x3072x576x1, .i32⟩
  | .hbm, ⟨76, _⟩ => ⟨S4x3072x576, .i32⟩
  | .hbm, ⟨77, _⟩ => ⟨S_, .i32⟩
  | .hbm, ⟨78, _⟩ => ⟨S4x3072x576, .i32⟩
  | .hbm, ⟨79, _⟩ => ⟨S4x3072x576, .i32⟩
  | .hbm, ⟨80, _⟩ => ⟨S_, .i32⟩
  | .hbm, ⟨81, _⟩ => ⟨S4x3072x576, .i32⟩
  | .hbm, ⟨82, _⟩ => ⟨S4x3072x576, .i32⟩
  | .hbm, ⟨83, _⟩ => ⟨S4x3072x576, .i32⟩
  | .hbm, ⟨84, _⟩ => ⟨S4x3072x576, .i8⟩
  | _, _ => ⟨S4x3072x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_cst_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_6 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_7 : Ref sig .tc := ⟨.hbm, 77, rfl⟩
abbrev main_v55 : Ref sig .tc := ⟨.hbm, 78, rfl⟩
abbrev main_v56 : Ref sig .tc := ⟨.hbm, 79, rfl⟩
abbrev main_c_8 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Proof.Val.Base.lean ====
module

public import proofs.«01_k».proof.Proof.Gen.KernelIdeal.Loops
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, k0_cond1, e0]
    word_cmp
   : ∀ t : Fin grid0.N, cond0_0 (grid0.coords t) ↔ t.val % 48 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x1152 .bf16 := win0_0.stage (cfg0.slots t 0)
/-- Window 0's staging buffer is a whole buffer. -/
abbrev hs0_0 (t : Fin cfg0.N) : (ms0_0 t).IsWhole := hstage0_0 ((cfg0.slots t 0).cast nbuf0_0)
/-- Window 1's current staging buffer. -/
abbrev ms0_1 (t : Fin cfg0.N) : Memref sig .tc .vmem S1152x7232 .i8 := win0_1.stage (cfg0.slots t 1)
/-- Window 1's staging buffer is a whole buffer. -/
abbrev hs0_1 (t : Fin cfg0.N) : (ms0_1 t).IsWhole := hstage0_1 ((cfg0.slots t 1).cast nbuf0_1)
/-- Window 2's current staging buffer. -/
abbrev ms0_2 (t : Fin cfg0.N) : Memref sig .tc .vmem S18x14464 .f32 := win0_2.stage (cfg0.slots t 2)
/-- Window 2's staging buffer is a whole buffer. -/
abbrev hs0_2 (t : Fin cfg0.N) : (ms0_2 t).IsWhole := hstage0_2 ((cfg0.slots t 2).cast nbuf0_2)
/-- Window 3's current staging buffer. -/
abbrev ms0_3 (t : Fin cfg0.N) : Memref sig .tc .vmem S18x14464 .bf16 := win0_3.stage (cfg0.slots t 3)
/-- Window 3's staging buffer is a whole buffer. -/
abbrev hs0_3 (t : Fin cfg0.N) : (ms0_3 t).IsWhole := hstage0_3 ((cfg0.slots t 3).cast nbuf0_3)
/-- Window 4's current staging buffer. -/
abbrev ms0_4 (t : Fin cfg0.N) : Memref sig .tc .vmem S1152x64 .bf16 := win0_4.stage (cfg0.slots t 4)
/-- Window 4's staging buffer is a whole buffer. -/
abbrev hs0_4 (t : Fin cfg0.N) : (ms0_4 t).IsWhole := hstage0_4 ((cfg0.slots t 4).cast nbuf0_4)
/-- Window 5's current staging buffer. -/
abbrev ms0_5 (t : Fin cfg0.N) : Memref sig .tc .vmem S64x14464 .bf16 := win0_5.stage (cfg0.slots t 5)
/-- Window 5's staging buffer is a whole buffer. -/
abbrev hs0_5 (t : Fin cfg0.N) : (ms0_5 t).IsWhole := hstage0_5 ((cfg0.slots t 5).cast nbuf0_5)
/-- Window 6's current staging buffer. -/
abbrev ms0_6 (t : Fin cfg0.N) : Memref sig .tc .vmem S256x14464 .bf16 := win0_6.stage (cfg0.slots t 6)
/-- Window 6's staging buffer is a whole buffer. -/
abbrev hs0_6 (t : Fin cfg0.N) : (ms0_6 t).IsWhole := hstage0_6 ((cfg0.slots t 6).cast nbuf0_6)
/-- Window 7's current staging buffer. -/
abbrev ms0_7 (t : Fin cfg0.N) : Memref sig .tc .vmem S256x576 .i8 := win0_7.stage (cfg0.slots t 7)
/-- Window 7's staging buffer is a whole buffer. -/
abbrev hs0_7 (t : Fin cfg0.N) : (ms0_7 t).IsWhole := hstage0_7 ((cfg0.slots t 7).cast nbuf0_7)
/-- Window 8's current staging buffer. -/
abbrev ms0_8 (t : Fin cfg0.N) : Memref sig .tc .vmem S256x18 .f32 := win0_8.stage (cfg0.slots t 8)
/-- Window 8's staging buffer is a whole buffer. -/
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1216x14464 .bf16 := Memref.whole cc0_scratch0
/-- The scratch buffer that holds the activations. -/
abbrev scM0_1 : Memref sig .tc .vmem S256x1216 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Val.Tile.lean ====
module

public import proofs.«01_k».proof.Proof.Gen.KernelIdeal.Skeleton
public import Idealize.ShloMosaic.Lib.Pipeline.ReadBack

@[expose] public section

set_option maxRecDepth 16384

noncomputable section

namespace Cert.KernelIdeal.Val

open Idealize.ShloMosaic Cert.KernelIdeal.Gen

variable {F : FTy → Type} [FloatOps F]

/-- The lane number, on a block of 32 rows. -/
def lane : IVec S32x128 32 := iota .tc S32x128 32 [1] iota_S32x128_d1_w32
/-- The lanes of a tile's first group of 64. -/
def low : IVec S32x128 1 := cmpi .slt lane (broadcast S32x128 64#32)
/-- Zero on a block. -/
def zeroB : FVec F S32x128 .f32 := broadcast S32x128 (Scalar.ofBits .f32 0x00000000#32)

/-- Tiles lie inside the row block. -/
theorem sl (t : Fin 9) : S32x1152.Slices ![0, 128 * t.val] S32x128 := by revert t; decide

/-- Tile `t` (128 lanes, two groups of 64) of a block of 32 rows, widened. -/
def tile (v : FVec F S32x1152 .bf16) (t : Fin 9) : FVec F S32x128 .f32 :=
  extf .f32 (extractStridedSlice S32x128 ![0, 128 * t.val] (shapeCast S32x1152 v shapeCasts_S32x1152_S32x1152) (sl t)) bitsLt_bf16_f32
/-- The largest absolute value of a tile's first group, per row. -/
def a0 (x : FVec F S32x128 .f32) : FVec F S32x1 .f32 :=
  shapeCast S32x1 (multiReduction .maximumf [1] S32 (select low (absf x) zeroB) 0xFF800000#32 reduces_S32x128_S32 (.inl rfl) rfl) shapeCasts_S32_S32x1
/-- The largest absolute value of a tile's second group, per row. -/
def a1 (x : FVec F S32x128 .f32) : FVec F S32x1 .f32 :=
  shapeCast S32x1 (multiReduction .maximumf [1] S32 (select low zeroB (absf x)) 0xFF800000#32 reduces_S32x128_S32 (.inl rfl) rfl) shapeCasts_S32_S32x1
/-- A per-row value on every lane. -/
def spread (a : FVec F S32x1 .f32) : FVec F S32x128 .f32 :=
  broadcastTo S32x128 (shapeCast S32x1 a shapeCasts_S32x1_S32x1) broadcasts_S32x1_S32x128
/-- The scale that goes with a largest absolute value. -/
def gsc (a : FVec F S32x128 .f32) : FVec F S32x128 .f32 :=
  select (cmpf .ogt a zeroB) (divf a (broadcast S32x128 (Scalar.ofBits .f32 0x40E00000#32))) (broadcast S32x128 (Scalar.ofBits .f32 0x3F800000#32))
/-- Each element's scale. -/
def scl (x : FVec F S32x128 .f32) : FVec F S32x128 .f32 := gsc (select low (spread (a0 x)) (spread (a1 x)))
/-- Each element's code, as a float. -/
def code (x : FVec F S32x128 .f32) : FVec F S32x128 .f32 :=
  minimumf (broadcast S32x128 (Scalar.ofBits .f32 0x40E00000#32)) (maximumf (broadcast S32x128 (Scalar.ofBits .f32 0xC1000000#32)) (roundeven (divf x (scl x))))
/-- The dequantised tile. -/
def deq (x : FVec F S32x128 .f32) : FVec F S32x128 .bf16 :=
  mulf (truncf .bf16 (code x) bitsLt_bf16_f32) (truncf .bf16 (scl x) bitsLt_bf16_f32)
/-- The dequantised tile as it is stored. -/
def deqS (x : FVec F S32x128 .f32) : FVec F S32x128 .bf16 := shapeCast S32x128 (deq x) shapeCasts_S32x128_S32x128
/-- The low nibbles of a tile's codes, four rows a word. -/
def nib (x : FVec F S32x128 .f32) : IVec S8x128 32 :=
  andi (bitcast S8x128 32 (fptosi 8 (code x)) bitcasts_S32x128_w8_S8x128_w32) (broadcast S8x128 252645135#32)
/-- Each lane's nibble with the next lane's above it. -/
def word (x : FVec F S32x128 .f32) : IVec S8x128 32 :=
  ori (nib x) (shli (dynamicRotate 1 127#32 none (nib x) rotates_S8x128_d1) (broadcast S8x128 4#32))
/-- One tile's two group maxima placed at lanes `2t`, `2t+1`. -/
def amStep (t : Fin 9) (x acc : FVec F S32x128 .f32) : FVec F S32x128 .f32 :=
  select (cmpi .eq lane (broadcast S32x128 (BitVec.ofNat 32 (2 * t.val + 1)))) (spread (a1 x))
    (select (cmpi .eq lane (broadcast S32x128 (BitVec.ofNat 32 (2 * t.val)))) (spread (a0 x)) acc)
/-- All the group maxima of a block of rows, by lane. -/
def amAll (v : FVec F S32x1152 .bf16) : FVec F S32x128 .f32 :=
  amStep 8 (tile v 8) (amStep 7 (tile v 7) (amStep 6 (tile v 6) (amStep 5 (tile v 5) (amStep 4 (tile v 4) (amStep 3 (tile v 3)
    (amStep 2 (tile v 2) (amStep 1 (tile v 1) (amStep 0 (tile v 0) zeroB))))))))
/-- The scales of a block of rows. -/
def scales (v : FVec F S32x1152 .bf16) : FVec F S32x18 .f32 :=
  extractStridedSlice S32x18 ![0, 0] (gsc (amAll v)) slices_S32x128_o0_0_S32x18

/-- The lane number, on a block of words. -/
def lane8 : IVec S8x128 32 := iota .tc S8x128 32 [1] iota_S8x128_d1_w32
/-- The even lane each packed lane starts from. -/
def even8 : IVec S8x128 32 := andi (muli (broadcast S8x128 2#32) lane8) (broadcast S8x128 127#32)
/-- The gather's index with negative ones wrapped. -/
def gix : IVec S8x128 32 :=
  shapeCast S8x128 (shapeCast S8x128x1 (select (cmpi .slt even8 (broadcast S8x128 0#32)) (addi even8 (broadcast S8x128 128#32)) even8)
    shapeCasts_S8x128_S8x128x1) shapeCasts_S8x128x1_S8x128
/-- Two tiles' packed codes side by side. -/
def pack (w w' : IVec S8x128 32) : IVec S32x128 8 :=
  bitcast S32x128 8 (select (cmpi .slt lane8 (broadcast S8x128 64#32)) (dynamicGather 1 w gix) (dynamicGather 1 w' gix)) bitcasts_S8x128_w32_S32x128_w8
/-- The last tile's packed codes. -/
def packLast (w : IVec S8x128 32) : IVec S32x64 8 := extractStridedSlice S32x64 ![0, 0] (pack w w) slices_S32x128_o0_0_S32x64

/-- The lane number, on a block of weight words. -/
def lane16 : IVec S16x128 32 := iota .tc S16x128 32 [1] iota_S16x128_d1_w32
/-- Half the lane number (floor division). -/
def half16 : IVec S16x128 32 :=
  select (andi (cmpi .ne (subi (extui 32 (cmpi .sgt lane16 (broadcast S16x128 0#32)) natLt_1_32) (extui 32 (cmpi .slt lane16 (broadcast S16x128 0#32)) natLt_1_32))
        (broadcast S16x128 (Scalar.subi (Scalar.extui (Scalar.cmpi .sgt 2#32 0#32)) (Scalar.extui (Scalar.cmpi .slt 2#32 0#32)))))
      (cmpi .ne (remsi lane16 (broadcast S16x128 2#32)) (broadcast S16x128 0#32)))
    (subi (divsi lane16 (broadcast S16x128 2#32)) (broadcast S16x128 1#32)) (divsi lane16 (broadcast S16x128 2#32))
/-- The byte lane each weight lane reads. -/
def pre16 (first : BitVec 32) : IVec S16x128 32 := addi (broadcast S16x128 first) half16
/-- The same with negative indices wrapped. -/
def gix16 (first : BitVec 32) : IVec S16x128 32 :=
  shapeCast S16x128 (shapeCast S16x128x1 (select (cmpi .slt (pre16 first) (broadcast S16x128 0#32)) (addi (pre16 first) (broadcast S16x128 128#32)) (pre16 first))
    shapeCasts_S16x128_S16x128x1) shapeCasts_S16x128x1_S16x128
/-- The weight codes of one group of 64 rows and 128 columns. -/
def wcode (p : IVec S64x128 8) (first : BitVec 32) : IVec S64x128 8 :=
  bitcast S64x128 8 (andi (shrui (dynamicGather 1 (bitcast S16x128 32 p bitcasts_S64x128_w8_S16x128_w32) (gix16 first))
    (muli (andi lane16 (broadcast S16x128 1#32)) (broadcast S16x128 4#32))) (broadcast S16x128 252645135#32)) bitcasts_S16x128_w32_S64x128_w8
/-- The dequantised weights of one group. -/
def wdeq (p : IVec S64x128 8) (first : BitVec 32) (z : Vec F S1x128 .bf16) (s : Vec F S1x128 .f32) : FVec F S64x128 .bf16 :=
  shapeCast S64x128 (mulf (subf (sitofp .bf16 (wcode p first)) (broadcastTo S64x128 z broadcasts_S1x128_S64x128))
    (broadcastTo S64x128 (truncf .bf16 s bitsLt_bf16_f32) broadcasts_S1x128_S64x128)) shapeCasts_S64x128_S64x128

/-- Row blocks of a window of activations. -/
theorem inbX (p : Fin 8) : ∀ a, (![32 * p.val, 0] : Fin 2 → Nat) a + S32x1152.size a ≤ S256x1152.size a := by revert p; decide
/-- An activation tile lies inside the scratch. -/
theorem inbA (p : Fin 8) (t : Fin 9) : ∀ a, (![32 * p.val, 128 * t.val] : Fin 2 → Nat) a + S32x128.size a ≤ S256x1216.size a := by revert p t; decide
/-- A scale stripe lies inside the scale block. -/
theorem inbS (p : Fin 8) : ∀ a, (![32 * p.val, 0] : Fin 2 → Nat) a + S32x18.size a ≤ S256x18.size a := by revert p; decide
/-- A full-width code stripe lies inside the code block. -/
theorem inbC (p : Fin 8) (t : Fin 4) : ∀ a, (![32 * p.val, 128 * t.val] : Fin 2 → Nat) a + S32x128.size a ≤ S256x576.size a := by revert p t; decide
/-- The half-width code stripe lies inside the code block. -/
theorem inbD (p : Fin 8) : ∀ a, (![32 * p.val, 512] : Fin 2 → Nat) a + S32x64.size a ≤ S256x576.size a := by revert p; decide

/-- The pieces of the dequantised activations, for row blocks `v`. -/
def aPieces (v : Fin 8 → FVec F S32x1152 .bf16) : List (View.Piece (Elt F) S256x1216 .bf16) :=
  [7, 6, 5, 4, 3, 2, 1, 0].flatMap fun p : Fin 8 => [8, 7, 6, 5, 4, 3, 2, 1, 0].map fun t : Fin 9 =>
    ⟨Rect.unit ![32 * p.val, 128 * t.val] S32x128.size (inbA p t), deqS (tile (v p) t)⟩
/-- The pieces of the scales. -/
def sPieces (v : Fin 8 → FVec F S32x1152 .bf16) : List (View.Piece (Elt F) S256x18 .f32) :=
  [7, 6, 5, 4, 3, 2, 1, 0].map fun p : Fin 8 => ⟨Rect.unit ![32 * p.val, 0] S32x18.size (inbS p), scales (v p)⟩
/-- The pieces of the packed codes. -/
def cPieces (v : Fin 8 → FVec F S32x1152 .bf16) : List (View.Piece (Elt F) S256x576 .i8) :=
  [7, 6, 5, 4, 3, 2, 1, 0].flatMap fun p : Fin 8 =>
    ⟨Rect.unit ![32 * p.val, 512] S32x64.size (inbD p), packLast (word (tile (v p) 8))⟩ ::
    [(3, 6, 7), (2, 4, 5), (1, 2, 3), (0, 0, 1)].map fun q : Fin 4 × Fin 9 × Fin 9 =>
      ⟨Rect.unit ![32 * p.val, 128 * q.1.val] S32x128.size (inbC p q.1), pack (word (tile (v p) q.2.1)) (word (tile (v p) q.2.2))⟩

end Cert.KernelIdeal.Val

end
-- ==== Proof.Val.Pieces.lean ====
module

public import proofs.«01_k».proof.Proof.Val.Tile
public import Idealize.ShloMosaic.Lib.Pointwise

@[expose] public section

set_option maxRecDepth 16384

noncomputable section

namespace Cert.KernelIdeal.Val

open Idealize.ShloMosaic Cert.KernelIdeal.Gen

variable {F : FTy → Type} [FloatOps F]

/-- A buffer after covering stores, each a block of one array, reads as that array. -/
theorem read_writes_of {sig : RefSig} {κ : Kind} {sp : Space} {s : Shape} {e : EltTy} (v : View sig κ sp s e) (f : v.ty.Contents (Elt F))
    (G : s.Idx → Elt F e) (L : List (View.Piece (Elt F) s e)) (h : ∀ p ∈ L, ∀ x : p.1.shape.Idx, p.2 x = G (p.1.emb x))
    (hc : ∀ y, ∃ p ∈ L, y ∈ p.1.set) : v.read (Elt F) (v.writes (Elt F) f L) = G := by
  rw [View.read_writes_eq_canon _ _ _ hc]
  funext y
  have := View.canon_append_of_pieces G [] L h y (hc y)
  rwa [List.append_nil] at this

/-- The block of 32 rows `p` of a window of activations. -/
def xp (x : Vec F S256x1152 .bf16) (p : Fin 8) : FVec F S32x1152 .bf16 :=
  View.ld x (Rect.unit ![32 * p.val, 0] S32x1152.size (inbX p))

/-- Which block of 32 rows a row is in. -/
def blkOf (r : Fin 256) : Fin 8 := ⟨r.val / 32, by omega⟩
/-- A row's place in its block. -/
def rowOf (r : Fin 256) : Fin 32 := ⟨r.val % 32, by omega⟩

/-- The scales of a window. -/
def sAll (v : Fin 8 → FVec F S32x1152 .bf16) : Vec F S256x18 .f32 := fun y => scales (v (blkOf (y 0))) (ix2 (rowOf (y 0)) (y 1))

/-- The packed codes of a window. -/
def cAll (v : Fin 8 → FVec F S32x1152 .bf16) : Vec F S256x576 .i8 := fun y =>
  if h : (y 1).val < 512 then
    pack (word (tile (v (blkOf (y 0))) ⟨2 * ((y 1).val / 128), by omega⟩)) (word (tile (v (blkOf (y 0))) ⟨2 * ((y 1).val / 128) + 1, by omega⟩))
      (ix2 (rowOf (y 0)) ⟨(y 1).val % 128, by omega⟩)
  else packLast (word (tile (v (blkOf (y 0))) 8)) (ix2 (rowOf (y 0)) ⟨(y 1).val - 512, by have : (y 1).val < 576 := (y 1).isLt; omega⟩)

/-- The activations the product reads: the dequantised window, then its low-rank part `l`. -/
def aAll (v : Fin 8 → FVec F S32x1152 .bf16) (l : FVec F S256x64 .bf16) : Vec F S256x1216 .bf16 := fun y =>
  if h : (y 1).val < 1152 then
    deqS (tile (v (blkOf (y 0))) ⟨(y 1).val / 128, by omega⟩) (ix2 (rowOf (y 0)) ⟨(y 1).val % 128, by omega⟩)
  else l (ix2 (y 0) ⟨(y 1).val - 1152, by have : (y 1).val < 1216 := (y 1).isLt; omega⟩)

/-- A scale stripe, read in the whole scale block. -/
theorem scales_emb (v : Fin 8 → FVec F S32x1152 .bf16) (p : Fin 8) (x : S32x18.Idx) :
    scales (v p) x = sAll v ((Rect.unit (s := S256x18) ![32 * p.val, 0] S32x18.size (inbS p)).emb x) := by
  have h0 : (x 0).val < 32 := (x 0).isLt
  have h1 : (x 1).val < 18 := (x 1).isLt
  generalize hy : (Rect.unit (s := S256x18) ![32 * p.val, 0] S32x18.size (inbS p)).emb x = y
  have e0 : (y 0 : Nat) = 32 * p.val + 1 * (x 0).val := by rw [← hy]; rfl
  have e1 : (y 1 : Nat) = 0 + 1 * (x 1).val := by rw [← hy]; rfl
  have hb : blkOf (y 0) = p := Fin.ext (by show (y 0).val / 32 = p.val; omega)
  show _ = scales (v (blkOf (y 0))) (ix2 (rowOf (y 0)) (y 1))
  rw [hb]
  congr 1
  funext a
  revert a
  exact Fin.forall_fin_two.mpr ⟨Fin.ext (by show (x 0).val = (y 0).val % 32; omega), Fin.ext (by show (x 1).val = (y 1).val; omega)⟩

/-- A full-width code stripe, read in the whole code block. -/
theorem cAll_emb (v : Fin 8 → FVec F S32x1152 .bf16) (p : Fin 8) (q : Fin 4) (t t' : Fin 9) (ht : t.val = 2 * q.val) (ht' : t'.val = 2 * q.val + 1)
    (x : S32x128.Idx) : pack (word (tile (v p) t)) (word (tile (v p) t')) x
      = cAll v ((Rect.unit (s := S256x576) ![32 * p.val, 128 * q.val] S32x128.size (inbC p q)).emb x) := by
  have h0 : (x 0).val < 32 := (x 0).isLt
  have h1 : (x 1).val < 128 := (x 1).isLt
  generalize hy : (Rect.unit (s := S256x576) ![32 * p.val, 128 * q.val] S32x128.size (inbC p q)).emb x = y
  have e0 : (y 0 : Nat) = 32 * p.val + 1 * (x 0).val := by rw [← hy]; rfl
  have e1 : (y 1 : Nat) = 128 * q.val + 1 * (x 1).val := by rw [← hy]; rfl
  have hb : blkOf (y 0) = p := Fin.ext (by show (y 0).val / 32 = p.val; omega)
  have hlt : (y 1).val < 512 := by omega
  have e2 : (⟨2 * ((y 1).val / 128), by omega⟩ : Fin 9) = t := Fin.ext (by show 2 * ((y 1).val / 128) = t.val; omega)
  have e3 : (⟨2 * ((y 1).val / 128) + 1, by omega⟩ : Fin 9) = t' := Fin.ext (by show 2 * ((y 1).val / 128) + 1 = t'.val; omega)
  unfold cAll
  rw [dif_pos hlt, hb, e2, e3]
  congr 1
  funext a
  revert a
  exact Fin.forall_fin_two.mpr ⟨Fin.ext (by show (x 0).val = (y 0).val % 32; omega), Fin.ext (by show (x 1).val = (y 1).val % 128; omega)⟩

/-- The last half-width code stripe, read in the whole code block. -/
theorem cLast_emb (v : Fin 8 → FVec F S32x1152 .bf16) (p : Fin 8) (x : S32x64.Idx) : packLast (word (tile (v p) 8)) x
      = cAll v ((Rect.unit (s := S256x576) ![32 * p.val, 512] S32x64.size (inbD p)).emb x) := by
  have h0 : (x 0).val < 32 := (x 0).isLt
  have h1 : (x 1).val < 64 := (x 1).isLt
  generalize hy : (Rect.unit (s := S256x576) ![32 * p.val, 512] S32x64.size (inbD p)).emb x = y
  have e0 : (y 0 : Nat) = 32 * p.val + 1 * (x 0).val := by rw [← hy]; rfl
  have e1 : (y 1 : Nat) = 512 + 1 * (x 1).val := by rw [← hy]; rfl
  have hb : blkOf (y 0) = p := Fin.ext (by show (y 0).val / 32 = p.val; omega)
  have hlt : ¬ (y 1).val < 512 := by omega
  unfold cAll
  rw [dif_neg hlt, hb]
  congr 1
  funext a
  revert a
  exact Fin.forall_fin_two.mpr ⟨Fin.ext (by show (x 0).val = (y 0).val % 32; omega), Fin.ext (by show (x 1).val = (y 1).val - 512; omega)⟩

/-- A stripe of dequantized activations, read in the whole activation scratch. -/
theorem aAll_emb (v : Fin 8 → FVec F S32x1152 .bf16) (l : FVec F S256x64 .bf16) (p : Fin 8) (t : Fin 9) (x : S32x128.Idx) :
    deqS (tile (v p) t) x = aAll v l ((Rect.unit (s := S256x1216) ![32 * p.val, 128 * t.val] S32x128.size (inbA p t)).emb x) := by
  have h0 : (x 0).val < 32 := (x 0).isLt
  have h1 : (x 1).val < 128 := (x 1).isLt
  generalize hy : (Rect.unit (s := S256x1216) ![32 * p.val, 128 * t.val] S32x128.size (inbA p t)).emb x = y
  have e0 : (y 0 : Nat) = 32 * p.val + 1 * (x 0).val := by rw [← hy]; rfl
  have e1 : (y 1 : Nat) = 128 * t.val + 1 * (x 1).val := by rw [← hy]; rfl
  have hb : blkOf (y 0) = p := Fin.ext (by show (y 0).val / 32 = p.val; omega)
  have hlt : (y 1).val < 1152 := by omega
  have e2 : (⟨(y 1).val / 128, by omega⟩ : Fin 9) = t := Fin.ext (by show (y 1).val / 128 = t.val; omega)
  unfold aAll
  rw [dif_pos hlt, hb, e2]
  congr 1
  funext a
  revert a
  exact Fin.forall_fin_two.mpr ⟨Fin.ext (by show (x 0).val = (y 0).val % 32; omega), Fin.ext (by show (x 1).val = (y 1).val % 128; omega)⟩

/-- The low-rank columns lie inside the activations. -/
theorem inbL : ∀ a, (![0, 1152] : Fin 2 → Nat) a + S256x64.size a ≤ S256x1216.size a := by decide

/-- The low-rank columns, read in the whole activation scratch. -/
theorem aLow_emb (v : Fin 8 → FVec F S32x1152 .bf16) (l : FVec F S256x64 .bf16) (x : S256x64.Idx) :
    l x = aAll v l ((Rect.unit (s := S256x1216) ![0, 1152] S256x64.size inbL).emb x) := by
  have h0 : (x 0).val < 256 := (x 0).isLt
  have h1 : (x 1).val < 64 := (x 1).isLt
  generalize hy : (Rect.unit (s := S256x1216) ![0, 1152] S256x64.size inbL).emb x = y
  have e0 : (y 0 : Nat) = 0 + 1 * (x 0).val := by rw [← hy]; rfl
  have e1 : (y 1 : Nat) = 1152 + 1 * (x 1).val := by rw [← hy]; rfl
  have hlt : ¬ (y 1).val < 1152 := by omega
  unfold aAll
  rw [dif_neg hlt]
  congr 1
  funext a
  revert a
  exact Fin.forall_fin_two.mpr ⟨Fin.ext (by show (x 0).val = (y 0).val; omega), Fin.ext (by show (x 1).val = (y 1).val - 1152; omega)⟩

/-- The eight row stripes are all listed. -/
theorem mem8 (p : Fin 8) : p ∈ ([7, 6, 5, 4, 3, 2, 1, 0] : List (Fin 8)) := by revert p; decide
/-- The nine column tiles are all listed. -/
theorem mem9 (p : Fin 9) : p ∈ ([8, 7, 6, 5, 4, 3, 2, 1, 0] : List (Fin 9)) := by revert p; decide
/-- The four full-width code stripes are all listed. -/
theorem mem4 (p : Fin 4) : ∃ q ∈ ([(3, 6, 7), (2, 4, 5), (1, 2, 3), (0, 0, 1)] : List (Fin 4 × Fin 9 × Fin 9)), q.1 = p := by revert p; decide
/-- Code stripe q packs tiles 2q and 2q + 1. -/
theorem mem4' : ∀ q ∈ ([(3, 6, 7), (2, 4, 5), (1, 2, 3), (0, 0, 1)] : List (Fin 4 × Fin 9 × Fin 9)), q.2.1.val = 2 * q.1.val ∧ q.2.2.val = 2 * q.1.val + 1 := by decide

/-- The scale buffer after its stores. -/
theorem read_sPieces {sig : RefSig} {κ : Kind} {sp : Space} (w : View sig κ sp S256x18 .f32) (f : w.ty.Contents (Elt F))
    (v : Fin 8 → FVec F S32x1152 .bf16) : w.read (Elt F) (w.writes (Elt F) f (sPieces v)) = sAll v := by
  apply read_writes_of
  · intro q hq x
    obtain ⟨p, -, rfl⟩ := List.mem_map.mp hq
    exact scales_emb v p x
  · intro y
    have h0 : (y 0).val < 256 := (y 0).isLt
    have h1 : (y 1).val < 18 := (y 1).isLt
    refine ⟨_, List.mem_map.mpr ⟨blkOf (y 0), mem8 _, rfl⟩, ?_⟩
    rw [Rect.mem_set_unit]
    refine Fin.forall_fin_two.mpr ⟨?_, ?_⟩
    · show 32 * ((y 0).val / 32) ≤ (y 0).val ∧ (y 0).val < 32 * ((y 0).val / 32) + 32
      omega
    · show 0 ≤ (y 1).val ∧ (y 1).val < 0 + 18
      omega

/-- The code buffer after its stores. -/
theorem read_cPieces {sig : RefSig} {κ : Kind} {sp : Space} (w : View sig κ sp S256x576 .i8) (f : w.ty.Contents (Elt F))
    (v : Fin 8 → FVec F S32x1152 .bf16) : w.read (Elt F) (w.writes (Elt F) f (cPieces v)) = cAll v := by
  apply read_writes_of
  · intro q hq x
    obtain ⟨p, -, hq⟩ := List.mem_flatMap.mp hq
    rcases List.mem_cons.mp hq with rfl | hq
    · exact cLast_emb v p x
    · obtain ⟨r, hr, rfl⟩ := List.mem_map.mp hq
      exact cAll_emb v p r.1 r.2.1 r.2.2 (mem4' r hr).1 (mem4' r hr).2 x
  · intro y
    have h0 : (y 0).val < 256 := (y 0).isLt
    have h1 : (y 1).val < 576 := (y 1).isLt
    by_cases h : (y 1).val < 512
    · obtain ⟨r, hr, hr1⟩ := mem4 ⟨(y 1).val / 128, by omega⟩
      refine ⟨_, List.mem_flatMap.mpr ⟨blkOf (y 0), mem8 _, List.mem_cons_of_mem _ (List.mem_map.mpr ⟨r, hr, rfl⟩)⟩, ?_⟩
      have hr2 : r.1.val = (y 1).val / 128 := by rw [hr1]
      rw [Rect.mem_set_unit]
      refine Fin.forall_fin_two.mpr ⟨?_, ?_⟩
      · show 32 * ((y 0).val / 32) ≤ (y 0).val ∧ (y 0).val < 32 * ((y 0).val / 32) + 32
        omega
      · show 128 * r.1.val ≤ (y 1).val ∧ (y 1).val < 128 * r.1.val + 128
        omega
    · refine ⟨_, List.mem_flatMap.mpr ⟨blkOf (y 0), mem8 _, List.mem_cons_self⟩, ?_⟩
      rw [Rect.mem_set_unit]
      refine Fin.forall_fin_two.mpr ⟨?_, ?_⟩
      · show 32 * ((y 0).val / 32) ≤ (y 0).val ∧ (y 0).val < 32 * ((y 0).val / 32) + 32
        omega
      · show 512 ≤ (y 1).val ∧ (y 1).val < 512 + 64
        omega

/-- The pieces of the whole activation scratch. -/
def alPieces (v : Fin 8 → FVec F S32x1152 .bf16) (l : FVec F S256x64 .bf16) : List (View.Piece (Elt F) S256x1216 .bf16) :=
  ⟨Rect.unit ![0, 1152] S256x64.size inbL, l⟩ :: aPieces v

/-- The activation scratch after its stores. -/
theorem read_aPieces {sig : RefSig} {κ : Kind} {sp : Space} (w : View sig κ sp S256x1216 .bf16) (f : w.ty.Contents (Elt F))
    (v : Fin 8 → FVec F S32x1152 .bf16) (l : FVec F S256x64 .bf16) : w.read (Elt F) (w.writes (Elt F) f (alPieces v l)) = aAll v l := by
  apply read_writes_of
  · intro q hq x
    rcases List.mem_cons.mp hq with rfl | hq
    · exact aLow_emb v l x
    · obtain ⟨p, -, hq⟩ := List.mem_flatMap.mp hq
      obtain ⟨t, -, rfl⟩ := List.mem_map.mp hq
      exact aAll_emb v l p t x
  · intro y
    have h0 : (y 0).val < 256 := (y 0).isLt
    have h1 : (y 1).val < 1216 := (y 1).isLt
    by_cases h : (y 1).val < 1152
    · refine ⟨_, List.mem_cons_of_mem _ (List.mem_flatMap.mpr ⟨blkOf (y 0), mem8 _, List.mem_map.mpr ⟨⟨(y 1).val / 128, by omega⟩, mem9 _, rfl⟩⟩), ?_⟩
      rw [Rect.mem_set_unit]
      refine Fin.forall_fin_two.mpr ⟨?_, ?_⟩
      · show 32 * ((y 0).val / 32) ≤ (y 0).val ∧ (y 0).val < 32 * ((y 0).val / 32) + 32
        omega
      · show 128 * ((y 1).val / 128) ≤ (y 1).val ∧ (y 1).val < 128 * ((y 1).val / 128) + 128
        omega
    · refine ⟨_, List.mem_cons_self, ?_⟩
      rw [Rect.mem_set_unit]
      refine Fin.forall_fin_two.mpr ⟨?_, ?_⟩
      · show 0 ≤ (y 0).val ∧ (y 0).val < 0 + 256
        omega
      · show 1152 ≤ (y 1).val ∧ (y 1).val < 1152 + 64
        omega

end Cert.KernelIdeal.Val

end
-- ==== Proof.Val.Read.lean ====
module

public import proofs.«01_k».proof.Proof.Val.Pieces
public import Idealize.ShloMosaic.Lib.VecWindow

@[expose] public section

set_option maxRecDepth 16384

noncomputable section

namespace Cert.KernelIdeal.Val

open Idealize.ShloMosaic Cert.KernelIdeal.Gen

variable {F : FTy → Type} [FloatOps F]

/-- The rows of block `p`. -/
abbrev rX (p : Fin 8) : Rect S256x1152 := Rect.unit ![32 * p.val, 0] S32x1152.size (inbX p)

/-- The row blocks as the body loads them. -/
def xq (a : Memref sig .tc .vmem S256x1152 .bf16) (h : a.IsWhole) (x : Vec F S256x1152 .bf16) (p : Fin 8) : FVec F S32x1152 .bf16 :=
  View.readAt (Elt F) a.view (rX p).toLoadRect (h.unread x)

/-- Reading the activation buffer stripe by stripe gives its stripes. -/
theorem xq_eq (a : Memref sig .tc .vmem S256x1152 .bf16) (h : a.IsWhole) (x : Vec F S256x1152 .bf16) : xq a h x = xp x := by
  funext p
  unfold xq xp
  rw [View.readAt_eq_ld, h.read_unread]

/-- The scale buffer after the body's stores. -/
theorem s_of {a : Memref sig .tc .vmem S256x1152 .bf16} {h : a.IsWhole} {x : Vec F S256x1152 .bf16} {κ : Kind} {sp : Space} (w : View sig κ sp S256x18 .f32)
    (f : w.ty.Contents (Elt F)) (L : List (View.Piece (Elt F) S256x18 .f32)) (hL : L = sPieces (xq a h x)) :
    w.read (Elt F) (w.writes (Elt F) f L) = sAll (xp x) := by
  rw [hL, read_sPieces, xq_eq]

/-- The code buffer after the body's stores. -/
theorem c_of {a : Memref sig .tc .vmem S256x1152 .bf16} {h : a.IsWhole} {x : Vec F S256x1152 .bf16} {κ : Kind} {sp : Space} (w : View sig κ sp S256x576 .i8)
    (f : w.ty.Contents (Elt F)) (L : List (View.Piece (Elt F) S256x576 .i8)) (hL : L = cPieces (xq a h x)) :
    w.read (Elt F) (w.writes (Elt F) f L) = cAll (xp x) := by
  rw [hL, read_cPieces, xq_eq]

/-- What the body's load of the activation scratch reads. -/
theorem a_of {a : Memref sig .tc .vmem S256x1152 .bf16} {h : a.IsWhole} {x : Vec F S256x1152 .bf16}
    {a' : Memref sig .tc .vmem S1152x64 .bf16} {h' : a'.IsWhole} {x' : Vec F S1152x64 .bf16} {κ : Kind} {sp : Space} (w : View sig κ sp S256x1216 .bf16)
    (L : List (View.Piece (Elt F) S256x1216 .bf16)) {off : Fin 2 → ℕ} (inb : ∀ i, off i + S256x1216.size i ≤ S256x1216.size i)
    {o : Fin 2 → ℕ} (io : ∀ i, o i + S256x1152.size i ≤ S256x1152.size i) {o' : Fin 2 → ℕ} (io' : ∀ i, o' i + S1152x64.size i ≤ S1152x64.size i)
    (hL : L = alPieces (xq a h x) (k0_pay2 (a.view.readAt (Elt F) (Rect.unit o S256x1152.size io).toLoadRect (h.unread x))
      (a'.view.readAt (Elt F) (Rect.unit o' S1152x64.size io').toLoadRect (h'.unread x')))) :
    w.readCov L (Rect.unit off S256x1216.size inb).toLoadRect = aAll (xp x) (k0_pay2 x x') := by
  have e1 : a.view.readAt (Elt F) (Rect.unit o S256x1152.size io).toLoadRect (h.unread x) = x := by
    rw [View.readAt_full, h.read_unread]
  have e2 : a'.view.readAt (Elt F) (Rect.unit o' S1152x64.size io').toLoadRect (h'.unread x') = x' := by
    rw [View.readAt_full, h'.read_unread]
  rw [hL, e1, e2, xq_eq]
  unfold View.readCov
  exact (View.readAt_full _ _ _).trans (read_aPieces _ _ _ _)

/-- The product's buffer after the body's one store. -/
theorem y_of {κ : Kind} {sp : Space} (w : View sig κ sp S256x14464 .bf16) (f : w.ty.Contents (Elt F)) {off : Fin 2 → ℕ}
    (inb : ∀ i, off i + S256x14464.size i ≤ S256x14464.size i) (A A' : Vec F S256x1216 .bf16) (W W' : Vec F S1216x14464 .bf16)
    (hA : A = A') (hW : W = W') :
    w.read (Elt F) (w.writes (Elt F) f [⟨Rect.unit off S256x14464.size inb, k0_pay3 A W⟩]) = k0_pay3 A' W' := by
  subst hA hW
  exact View.read_writes_full _ _ _ _ _

end Cert.KernelIdeal.Val

end
-- ==== Proof.Val.RunB.lean ====
module

public import proofs.«01_k».proof.Proof.Val.Base
public import proofs.«01_k».proof.Proof.Val.Read

@[expose] public section

-- membership in a rectangle of production extents (`View.cover_of_tiled`): the elaborator's structural look
-- recurses once per coordinate of the long axes
set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2928000 in
/-- The body at a point after the first: on the inputs' windows, with the dequantised weights `w` in their scratch, it
    leaves in the outputs' windows the product, the packed codes and the scales, and `w` where it was. -/
theorem valB (c : Dev nD) (i : grid0.Coords) (arg1 : Memref sig .tc .vmem S256x1152 .bf16) (harg1 : arg1.IsWhole) (arg2 : Memref sig .tc .vmem S1152x7232 .i8) (harg2 : arg2.IsWhole) (arg3 : Memref sig .tc .vmem S18x14464 .f32) (harg3 : arg3.IsWhole) (arg4 : Memref sig .tc .vmem S18x14464 .bf16) (harg4 : arg4.IsWhole) (arg5 : Memref sig .tc .vmem S1152x64 .bf16) (harg5 : arg5.IsWhole) (arg6 : Memref sig .tc .vmem S64x14464 .bf16) (harg6 : arg6.IsWhole) (arg7 : Memref sig .tc .vmem S256x14464 .bf16) (harg7 : arg7.IsWhole) (arg8 : Memref sig .tc .vmem S256x576 .i8) (harg8 : arg8.IsWhole) (arg9 : Memref sig .tc .vmem S256x18 .f32) (harg9 : arg9.IsWhole) (arg10 : Memref sig .tc .vmem S1216x14464 .bf16) (harg10 : arg10.IsWhole) (arg11 : Memref sig .tc .vmem S256x1216 .bf16) (harg11 : arg11.IsWhole) (hc0 : ¬cond0_0 i)
    (x0 : Vec F S256x1152 .bf16) (x1 : Vec F S1152x7232 .i8) (x2 : Vec F S18x14464 .f32) (x3 : Vec F S18x14464 .bf16) (x4 : Vec F S1152x64 .bf16) (x5 : Vec F S64x14464 .bf16) (w : Vec F S1216x14464 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare w ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay3 (aAll (xp x0) (k0_pay2 x0 x4)) w) ∗ owns (c : Thread nD τ) arg8 fullShare (cAll (xp x0)) ∗ owns (c : Thread nD τ) arg9 fullShare (sAll (xp x0)) ∗ owns (c : Thread nD τ) arg10 fullShare w ∗ (∃ d, owns (c : Thread nD τ) arg11 fullShare d)) -∗ K ⟨⟩))
          ⊢ wp frame (wpE (defs₀ (F := F)) Variants.none c none) E (cc0_w4a4 i arg1 harg1 arg2 harg2 arg3 harg3 arg4 harg4 arg5 harg5 arg6 harg6 arg7 harg7 arg8 harg8 arg9 harg9 arg10 harg10 arg11 harg11) K := by
    intro E K
    simp only [cc0_w4a4_eq_skeleton]; unfold cc0_w4a4_skel
    simp only [k0_part182_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part183_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine y_of _ _ _ _ _ _ _ ?_ ?_
      · exact a_of (a := arg1) (h := harg1) (x := x0) (a' := arg5) (h' := harg5) (x' := x4) _ _ _ inb_S256x1152_S256x1152_0_0 inb_S1152x64_S1152x64_0_0 rfl
      · rw [View.readAt_full, harg10.read_unread]
    isplitl [H7]
    · iexists _; isplitr; swap; · iexact H7
      ipureintro
      exact c_of (a := arg1) (h := harg1) (x := x0) _ _ _ rfl
    isplitl [H8]
    · iexists _; isplitr; swap; · iexact H8
      ipureintro
      exact s_of (a := arg1) (h := harg1) (x := x0) _ _ _ rfl
    isplitl [HS0]
    · iexists _; isplitr; · ipureintro; exact harg10.read_unread _
      iexact HS0
    iexists _, _; isplitr; swap; · iexact HS1
    ipureintro; rfl

end Cert.KernelIdeal.Val

end
-- ==== Proof.Val.Trip.lean ====
module

public import proofs.«01_k».proof.Proof.Val.Read
public import proofs.«01_k».proof.Proof.Gen.KernelIdeal.Loops

@[expose] public section

set_option maxRecDepth 16384

noncomputable section

namespace Cert.KernelIdeal.Val

open Idealize.ShloMosaic Cert.KernelIdeal.Gen

variable {F : FTy → Type} [FloatOps F]

/-- Where the loop's trip `k` reads the packed weights of group `g`. -/
def offP (g : Fin 18) (k : Fin k0_t1_loop.trips) : Fin 2 → Nat := (![k0_off1 k, k0_off4 k, k0_off7 k, k0_off10 k, k0_off13 k, k0_off16 k, k0_off19 k, k0_off22 k, k0_off25 k, k0_off28 k, k0_off31 k, k0_off34 k, k0_off37 k, k0_off40 k, k0_off43 k, k0_off46 k, k0_off49 k, k0_off52 k] : Fin 18 → Fin 2 → Nat) g
/-- Where it reads the zero points and scales of the group. -/
def offZ (g : Fin 18) (k : Fin k0_t1_loop.trips) (q : BitVec 32) : Fin 2 → Nat := (![k0_off2 k q, k0_off5 k q, k0_off8 k q, k0_off11 k q, k0_off14 k q, k0_off17 k q, k0_off20 k q, k0_off23 k q, k0_off26 k q, k0_off29 k q, k0_off32 k q, k0_off35 k q, k0_off38 k q, k0_off41 k q, k0_off44 k q, k0_off47 k q, k0_off50 k q, k0_off53 k q] : Fin 18 → Fin 2 → Nat) g
/-- Where it writes the dequantised weights of the group. -/
def offW (g : Fin 18) (k : Fin k0_t1_loop.trips) (q : BitVec 32) : Fin 2 → Nat := (![k0_off3 k q, k0_off6 k q, k0_off9 k q, k0_off12 k q, k0_off15 k q, k0_off18 k q, k0_off21 k q, k0_off24 k q, k0_off27 k q, k0_off30 k q, k0_off33 k q, k0_off36 k q, k0_off39 k q, k0_off42 k q, k0_off45 k q, k0_off48 k q, k0_off51 k q, k0_off54 k q] : Fin 18 → Fin 2 → Nat) g

/-- The loop runs 56 trips. -/
theorem trips_eq : k0_t1_loop.trips = 56 := by decide +kernel

/-- Where a trip reads packed weights. -/
theorem offP_eq : ∀ (g : Fin 18) (k : Fin k0_t1_loop.trips), offP g k = ![64 * g.val, 128 * k.val] := by
  intro g k; funext a; revert g k a; decide +kernel
/-- Where a trip reads the first tile's scales and zero points. -/
theorem offZ_eq0 : ∀ (g : Fin 18) (k : Fin k0_t1_loop.trips), offZ g k 0#32 = ![g.val, 128 * (2 * k.val)] := by
  intro g k; funext a; revert g k a; decide +kernel
/-- Where a trip reads the second tile's scales and zero points. -/
theorem offZ_eq1 : ∀ (g : Fin 18) (k : Fin k0_t1_loop.trips), offZ g k 128#32 = ![g.val, 128 * (2 * k.val + 1)] := by
  intro g k; funext a; revert g k a; decide +kernel
/-- Where a trip stores its first weight tile. -/
theorem offW_eq0 : ∀ (g : Fin 18) (k : Fin k0_t1_loop.trips), offW g k 0#32 = ![64 * g.val, 128 * (2 * k.val)] := by
  intro g k; funext a; revert g k a; decide +kernel
/-- Where a trip stores its second weight tile. -/
theorem offW_eq1 : ∀ (g : Fin 18) (k : Fin k0_t1_loop.trips), offW g k 128#32 = ![64 * g.val, 128 * (2 * k.val + 1)] := by
  intro g k; funext a; revert g k a; decide +kernel

/-- A weight tile lies inside the weight scratch. -/
theorem inbWt (g : Fin 18) (t : Fin 113) : ∀ a, (![64 * g.val, 128 * t.val] : Fin 2 → Nat) a + S64x128.size a ≤ S1216x14464.size a := by
  have := g.isLt; have := t.isLt
  exact Fin.forall_fin_two.mpr ⟨(by show 64 * g.val + 64 ≤ 1216; omega), (by show 128 * t.val + 128 ≤ 14464; omega)⟩
/-- A row of scales or zero points lies inside its array. -/
theorem inbZt {s : Shape} (hs : s = S18x14464) (g : Fin 18) (t : Fin 113) : ∀ a, (![g.val, 128 * t.val] : Fin 2 → Nat) a + S1x128.size a ≤ S18x14464.size a := by
  have := g.isLt; have := t.isLt
  exact Fin.forall_fin_two.mpr ⟨(by show g.val + 1 ≤ 18; omega), (by show 128 * t.val + 128 ≤ 14464; omega)⟩
/-- A tile of packed weights lies inside its array. -/
theorem inbPt (g : Fin 18) (t : Fin 56) : ∀ a, (![64 * g.val, 128 * t.val] : Fin 2 → Nat) a + S64x128.size a ≤ S1152x7232.size a := by
  have := g.isLt; have := t.isLt
  exact Fin.forall_fin_two.mpr ⟨(by show 64 * g.val + 64 ≤ 1152; omega), (by show 128 * t.val + 128 ≤ 7232; omega)⟩
/-- The last packed tile lies inside its array. -/
theorem inbPl (g : Fin 18) : ∀ a, (![64 * g.val, 7168] : Fin 2 → Nat) a + S64x64.size a ≤ S1152x7232.size a := by
  have := g.isLt
  exact Fin.forall_fin_two.mpr ⟨(by show 64 * g.val + 64 ≤ 1152; omega), (by show 7168 + 64 ≤ 7232; omega)⟩

/-- A trip's first weight tile lies inside the scratch. -/
theorem inbW0 (g : Fin 18) (k : Fin k0_t1_loop.trips) : ∀ a, offW g k 0#32 a + S64x128.size a ≤ S1216x14464.size a := by
  have hk := Nat.lt_of_lt_of_eq k.isLt trips_eq
  rw [offW_eq0]; exact inbWt g ⟨2 * k.val, by omega⟩
/-- A trip's second weight tile lies inside the scratch. -/
theorem inbW1 (g : Fin 18) (k : Fin k0_t1_loop.trips) : ∀ a, offW g k 128#32 a + S64x128.size a ≤ S1216x14464.size a := by
  have hk := Nat.lt_of_lt_of_eq k.isLt trips_eq
  rw [offW_eq1]; exact inbWt g ⟨2 * k.val + 1, by omega⟩
/-- A trip's first scale row lies inside its array. -/
theorem inbZ0 (g : Fin 18) (k : Fin k0_t1_loop.trips) : ∀ a, offZ g k 0#32 a + S1x128.size a ≤ S18x14464.size a := by
  have hk := Nat.lt_of_lt_of_eq k.isLt trips_eq
  rw [offZ_eq0]; exact inbZt rfl g ⟨2 * k.val, by omega⟩
/-- A trip's second scale row lies inside its array. -/
theorem inbZ1 (g : Fin 18) (k : Fin k0_t1_loop.trips) : ∀ a, offZ g k 128#32 a + S1x128.size a ≤ S18x14464.size a := by
  have hk := Nat.lt_of_lt_of_eq k.isLt trips_eq
  rw [offZ_eq1]; exact inbZt rfl g ⟨2 * k.val + 1, by omega⟩
/-- A trip's packed tile lies inside its array. -/
theorem inbP0 (g : Fin 18) (k : Fin k0_t1_loop.trips) : ∀ a, offP g k a + S64x128.size a ≤ S1152x7232.size a := by
  have hk := Nat.lt_of_lt_of_eq k.isLt trips_eq
  rw [offP_eq]; exact inbPt g ⟨k.val, by omega⟩

/-- A load through a rectangle of contents `X`. -/
abbrev rd {sig : RefSig} {s : Shape} {e : EltTy} (a : Memref sig .tc .vmem s e) (X : a.view.ty.Contents (Elt F)) (r : Rect s) : r.shape.Idx → Elt F e :=
  View.readAt (Elt F) a.view r.toLoadRect X

/-- The two pieces of group `g` that trip `k` writes. -/
def tripPieces2 (arg2 : Memref sig .tc .vmem S1152x7232 .i8) (arg3 : Memref sig .tc .vmem S18x14464 .f32) (arg4 : Memref sig .tc .vmem S18x14464 .bf16)
    (X2 : arg2.view.ty.Contents (Elt F)) (X3 : arg3.view.ty.Contents (Elt F)) (X4 : arg4.view.ty.Contents (Elt F)) (k : Fin k0_t1_loop.trips) (g : Fin 18) :
    List (View.Piece (Elt F) S1216x14464 .bf16) :=
  [⟨Rect.unit (offW g k 128#32) S64x128.size (inbW1 g k), wdeq (rd arg2 X2 (Rect.unit (offP g k) S64x128.size (inbP0 g k))) 64#32
      (rd arg4 X4 (Rect.unit (offZ g k 128#32) S1x128.size (inbZ1 g k))) (rd arg3 X3 (Rect.unit (offZ g k 128#32) S1x128.size (inbZ1 g k)))⟩,
   ⟨Rect.unit (offW g k 0#32) S64x128.size (inbW0 g k), wdeq (rd arg2 X2 (Rect.unit (offP g k) S64x128.size (inbP0 g k))) 0#32
      (rd arg4 X4 (Rect.unit (offZ g k 0#32) S1x128.size (inbZ0 g k))) (rd arg3 X3 (Rect.unit (offZ g k 0#32) S1x128.size (inbZ0 g k)))⟩]

/-- The pieces trip `k` writes. -/
def tripPieces (arg2 : Memref sig .tc .vmem S1152x7232 .i8) (arg3 : Memref sig .tc .vmem S18x14464 .f32) (arg4 : Memref sig .tc .vmem S18x14464 .bf16)
    (X2 : arg2.view.ty.Contents (Elt F)) (X3 : arg3.view.ty.Contents (Elt F)) (X4 : arg4.view.ty.Contents (Elt F)) (k : Fin k0_t1_loop.trips) :
    List (View.Piece (Elt F) S1216x14464 .bf16) :=
  [17, 16, 15, 14, 13, 12, 11, 10, 9, 8, 7, 6, 5, 4, 3, 2, 1, 0].flatMap (tripPieces2 arg2 arg3 arg4 X2 X3 X4 k)

set_option maxHeartbeats 2000000 in
/-- The generated store list of one trip is the list of its weight tiles. -/
theorem tripL_eq (𝒱 : Variants) (c : Dev nD) (bd : Option 𝒱.V) (i : grid0.Coords) (arg1 : Memref sig .tc .vmem S256x1152 .bf16) (harg1 : arg1.IsWhole) (arg2 : Memref sig .tc .vmem S1152x7232 .i8) (harg2 : arg2.IsWhole) (arg3 : Memref sig .tc .vmem S18x14464 .f32) (harg3 : arg3.IsWhole) (arg4 : Memref sig .tc .vmem S18x14464 .bf16) (harg4 : arg4.IsWhole) (arg5 : Memref sig .tc .vmem S1152x64 .bf16) (harg5 : arg5.IsWhole) (arg6 : Memref sig .tc .vmem S64x14464 .bf16) (harg6 : arg6.IsWhole) (arg7 : Memref sig .tc .vmem S256x14464 .bf16) (harg7 : arg7.IsWhole) (arg8 : Memref sig .tc .vmem S256x576 .i8) (harg8 : arg8.IsWhole) (arg9 : Memref sig .tc .vmem S256x18 .f32) (harg9 : arg9.IsWhole) (arg10 : Memref sig .tc .vmem S1216x14464 .bf16) (harg10 : arg10.IsWhole) (arg11 : Memref sig .tc .vmem S256x1216 .bf16) (harg11 : arg11.IsWhole) (k0_h1 : k0_cond1 i = 1#1) (X_arg2 : BufTy.Contents (Elt F) arg2.view.ty) (X_arg3 : BufTy.Contents (Elt F) arg3.view.ty) (X_arg4 : BufTy.Contents (Elt F) arg4.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 k).1 = tripPieces arg2 arg3 arg4 X_arg2 X_arg3 X_arg4 k := by
  unfold trip_k0_t1
  rfl

end Cert.KernelIdeal.Val

end
-- ==== Proof.Val.Weights.lean ====
module

public import proofs.«01_k».proof.Proof.Val.Trip

@[expose] public section

set_option maxRecDepth 16384

noncomputable section

namespace Cert.KernelIdeal.Val

open Idealize.ShloMosaic Cert.KernelIdeal.Gen

variable {F : FTy → Type} [FloatOps F]

/-- The packed weights of group `g` behind columns `128 t … 128 t + 127`: half of a tile of 128 byte columns, or of the
    last 64 byte columns beside themselves. -/
def wpk (x1 : Vec F S1152x7232 .i8) (g : Fin 18) (t : Fin 113) : IVec S64x128 8 :=
  if h : t.val < 112 then View.ld x1 (Rect.unit (s := S1152x7232) ![64 * g.val, 128 * (⟨t.val / 2, by omega⟩ : Fin 56).val] S64x128.size (inbPt g ⟨t.val / 2, by omega⟩))
  else concatenate S64x128 1 [⟨S64x64, View.ld x1 (Rect.unit (s := S1152x7232) ![64 * g.val, 7168] S64x64.size (inbPl g))⟩,
    ⟨S64x64, View.ld x1 (Rect.unit (s := S1152x7232) ![64 * g.val, 7168] S64x64.size (inbPl g))⟩] concatenates_S64x64_S64x64_S64x128_d1

/-- The first byte column of the half. -/
def wfirst (t : Fin 113) : BitVec 32 := if t.val % 2 = 0 then 0#32 else 64#32

/-- The dequantised weights of group `g`, columns `128 t … 128 t + 127`. -/
def wTile (x1 : Vec F S1152x7232 .i8) (x2 : Vec F S18x14464 .f32) (x3 : Vec F S18x14464 .bf16) (g : Fin 18) (t : Fin 113) : FVec F S64x128 .bf16 :=
  wdeq (F := F) (wpk x1 g t) (wfirst t) (View.ld x3 (Rect.unit (s := S18x14464) ![g.val, 128 * t.val] S1x128.size (inbZt rfl g t)))
    (View.ld x2 (Rect.unit (s := S18x14464) ![g.val, 128 * t.val] S1x128.size (inbZt rfl g t)))

/-- The weights the product reads: the dequantised weights, then the low-rank ones. -/
def wAll (x1 : Vec F S1152x7232 .i8) (x2 : Vec F S18x14464 .f32) (x3 : Vec F S18x14464 .bf16) (x5 : Vec F S64x14464 .bf16) : Vec F S1216x14464 .bf16 := fun y =>
  if h : (y 0).val < 1152 then
    wTile x1 x2 x3 ⟨(y 0).val / 64, by omega⟩ ⟨(y 1).val / 128, by have : (y 1).val < 14464 := (y 1).isLt; omega⟩
      (ix2 ⟨(y 0).val % 64, by omega⟩ ⟨(y 1).val % 128, by omega⟩)
  else k0_pay262 x5 (ix2 ⟨(y 0).val - 1152, by have : (y 0).val < 1216 := (y 0).isLt; omega⟩ (y 1))

/-- A dequantized weight tile, read in the whole weight scratch. -/
theorem wTile_emb (x1 : Vec F S1152x7232 .i8) (x2 : Vec F S18x14464 .f32) (x3 : Vec F S18x14464 .bf16) (x5 : Vec F S64x14464 .bf16) (g : Fin 18) (t : Fin 113)
    {o : Fin 2 → ℕ} (ho : o = ![64 * g.val, 128 * t.val]) (io : ∀ a, o a + S64x128.size a ≤ S1216x14464.size a) (x : S64x128.Idx) :
    wTile x1 x2 x3 g t x = wAll x1 x2 x3 x5 ((Rect.unit (s := S1216x14464) o S64x128.size io).emb x) := by
  subst ho
  have hg := g.isLt
  have h0 : (x 0).val < 64 := (x 0).isLt
  have h1 : (x 1).val < 128 := (x 1).isLt
  generalize hy : (Rect.unit (s := S1216x14464) ![64 * g.val, 128 * t.val] S64x128.size io).emb x = y
  have e0 : (y 0 : Nat) = 64 * g.val + 1 * (x 0).val := by rw [← hy]; rfl
  have e1 : (y 1 : Nat) = 128 * t.val + 1 * (x 1).val := by rw [← hy]; rfl
  have hlt : (y 0).val < 1152 := by omega
  have e2 : (⟨(y 0).val / 64, by omega⟩ : Fin 18) = g := Fin.ext (by show (y 0).val / 64 = g.val; omega)
  have e3 : (⟨(y 1).val / 128, by have := t.isLt; omega⟩ : Fin 113) = t := Fin.ext (by show (y 1).val / 128 = t.val; omega)
  unfold wAll
  rw [dif_pos hlt, e2, e3]
  congr 1
  funext a
  revert a
  exact Fin.forall_fin_two.mpr ⟨Fin.ext (by show (x 0).val = (y 0).val % 64; omega), Fin.ext (by show (x 1).val = (y 1).val % 128; omega)⟩

/-- The low-rank rows lie inside the weights. -/
theorem inbR : ∀ a, (![1152, 0] : Fin 2 → Nat) a + S64x14464.size a ≤ S1216x14464.size a := by decide

/-- The low-rank rows, read in the whole weight scratch. -/
theorem wLow_emb (x1 : Vec F S1152x7232 .i8) (x2 : Vec F S18x14464 .f32) (x3 : Vec F S18x14464 .bf16) (x5 : Vec F S64x14464 .bf16) (x : S64x14464.Idx) :
    k0_pay262 x5 x = wAll x1 x2 x3 x5 ((Rect.unit (s := S1216x14464) ![1152, 0] S64x14464.size inbR).emb x) := by
  have h0 : (x 0).val < 64 := (x 0).isLt
  have h1 : (x 1).val < 14464 := (x 1).isLt
  generalize hy : (Rect.unit (s := S1216x14464) ![1152, 0] S64x14464.size inbR).emb x = y
  have e0 : (y 0 : Nat) = 1152 + 1 * (x 0).val := by rw [← hy]; rfl
  have e1 : (y 1 : Nat) = 0 + 1 * (x 1).val := by rw [← hy]; rfl
  have hlt : ¬ (y 0).val < 1152 := by omega
  unfold wAll
  rw [dif_neg hlt]
  congr 1
  funext a
  revert a
  exact Fin.forall_fin_two.mpr ⟨Fin.ext (by show (x 0).val = (y 0).val - 1152; omega), Fin.ext (by show (x 1).val = (y 1).val; omega)⟩

/-- What the loop computes for a tile is the tile of the weights. -/
theorem wdeq_loop (x1 : Vec F S1152x7232 .i8) (x2 : Vec F S18x14464 .f32) (x3 : Vec F S18x14464 .bf16) (g : Fin 18) (t : Fin 113) (ht : t.val < 112)
    (first : BitVec 32) (hf : first = wfirst t)
    {oP oZ : Fin 2 → ℕ} (hP : oP = ![64 * g.val, 128 * (t.val / 2)]) (hZ : oZ = ![g.val, 128 * t.val])
    (iP : ∀ a, oP a + S64x128.size a ≤ S1152x7232.size a) (iZ : ∀ a, oZ a + S1x128.size a ≤ S18x14464.size a) :
    wdeq (F := F) (View.ld x1 (Rect.unit (s := S1152x7232) oP S64x128.size iP)) first (View.ld x3 (Rect.unit (s := S18x14464) oZ S1x128.size iZ))
      (View.ld x2 (Rect.unit (s := S18x14464) oZ S1x128.size iZ)) = wTile x1 x2 x3 g t := by
  subst hP hZ hf
  unfold wTile wpk
  rw [dif_pos ht]

section
variable (𝒱 : Variants) (c : Dev nD) (bd : Option 𝒱.V) (i : grid0.Coords) (arg1 : Memref sig .tc .vmem S256x1152 .bf16) (harg1 : arg1.IsWhole) (arg2 : Memref sig .tc .vmem S1152x7232 .i8) (harg2 : arg2.IsWhole) (arg3 : Memref sig .tc .vmem S18x14464 .f32) (harg3 : arg3.IsWhole) (arg4 : Memref sig .tc .vmem S18x14464 .bf16) (harg4 : arg4.IsWhole) (arg5 : Memref sig .tc .vmem S1152x64 .bf16) (harg5 : arg5.IsWhole) (arg6 : Memref sig .tc .vmem S64x14464 .bf16) (harg6 : arg6.IsWhole) (arg7 : Memref sig .tc .vmem S256x14464 .bf16) (harg7 : arg7.IsWhole) (arg8 : Memref sig .tc .vmem S256x576 .i8) (harg8 : arg8.IsWhole) (arg9 : Memref sig .tc .vmem S256x18 .f32) (harg9 : arg9.IsWhole) (arg10 : Memref sig .tc .vmem S1216x14464 .bf16) (harg10 : arg10.IsWhole) (arg11 : Memref sig .tc .vmem S256x1216 .bf16) (harg11 : arg11.IsWhole) (k0_h1 : k0_cond1 i = 1#1)    (x1 : Vec F S1152x7232 .i8) (x2 : Vec F S18x14464 .f32) (x3 : Vec F S18x14464 .bf16)

/-- The eighteen groups are all listed. -/
theorem mem18 (p : Fin 18) : p ∈ ([17, 16, 15, 14, 13, 12, 11, 10, 9, 8, 7, 6, 5, 4, 3, 2, 1, 0] : List (Fin 18)) := by revert p; decide

/-- Every piece of a trip is a block of the weights. -/
theorem trip_blocks (k : Fin k0_t1_loop.trips) (x5 : Vec F S64x14464 .bf16) :
    ∀ p ∈ tripPieces arg2 arg3 arg4 (harg2.unread x1) (harg3.unread x2) (harg4.unread x3) k, ∀ x : p.1.shape.Idx, p.2 x = wAll x1 x2 x3 x5 (p.1.emb x) := by
  intro p hp x
  have hk := Nat.lt_of_lt_of_eq k.isLt trips_eq
  obtain ⟨g, -, hp⟩ := List.mem_flatMap.mp hp
  have h2 : ∀ r, rd arg2 (harg2.unread x1) r = View.ld x1 r := fun r => by unfold rd; rw [View.readAt_eq_ld, harg2.read_unread]
  have h3 : ∀ r, rd arg3 (harg3.unread x2) r = View.ld x2 r := fun r => by unfold rd; rw [View.readAt_eq_ld, harg3.read_unread]
  have h4 : ∀ r, rd arg4 (harg4.unread x3) r = View.ld x3 r := fun r => by unfold rd; rw [View.readAt_eq_ld, harg4.read_unread]
  rcases List.mem_cons.mp hp with rfl | hp
  · refine Eq.trans ?_ (wTile_emb x1 x2 x3 x5 g ⟨2 * k.val + 1, by omega⟩ (offW_eq1 g k) (inbW1 g k) x)
    refine congrFun (Eq.trans ?_ (wdeq_loop x1 x2 x3 g ⟨2 * k.val + 1, by omega⟩ (by show 2 * k.val + 1 < 112; omega) 64#32 ?_
      ((offP_eq g k).trans ?_) (offZ_eq1 g k) (inbP0 g k) (inbZ1 g k))) x
    · show wdeq _ _ _ _ = _
      rw [h2, h3, h4]
    · unfold wfirst; rw [if_neg (by show ¬ (2 * k.val + 1) % 2 = 0; omega)]
    · congr 2; show _ = 128 * ((2 * k.val + 1) / 2); omega
  · rw [List.mem_singleton] at hp
    subst hp
    refine Eq.trans ?_ (wTile_emb x1 x2 x3 x5 g ⟨2 * k.val, by omega⟩ (offW_eq0 g k) (inbW0 g k) x)
    refine congrFun (Eq.trans ?_ (wdeq_loop x1 x2 x3 g ⟨2 * k.val, by omega⟩ (by show 2 * k.val < 112; omega) 0#32 ?_
      ((offP_eq g k).trans ?_) (offZ_eq0 g k) (inbP0 g k) (inbZ0 g k))) x
    · show wdeq _ _ _ _ = _
      rw [h2, h3, h4]
    · unfold wfirst; rw [if_pos (by show (2 * k.val) % 2 = 0; omega)]
    · congr 2; show _ = 128 * ((2 * k.val) / 2); omega

/-- Every piece of the trips so far is a block of the weights. -/
theorem pb_blocks (x5 : Vec F S64x14464 .bf16) (n : ℕ) (hn : n ≤ k0_t1_loop.trips) :
    ∀ p ∈ pb_k0_t1 (F := F) 𝒱 c bd i arg1 harg1 arg2 harg2 arg3 harg3 arg4 harg4 arg5 harg5 arg6 harg6 arg7 harg7 arg8 harg8 arg9 harg9 arg10 harg10 arg11 harg11 k0_h1 (harg2.unread x1) (harg3.unread x2) (harg4.unread x3) n, ∀ x : p.1.shape.Idx, p.2 x = wAll x1 x2 x3 x5 (p.1.emb x) := by
  induction n with
  | zero => intro p hp; exact absurd hp (List.not_mem_nil)
  | succ n ih =>
    intro p hp
    have hs := pb_k0_t1_succ (F := F) 𝒱 c bd i arg1 harg1 arg2 harg2 arg3 harg3 arg4 harg4 arg5 harg5 arg6 harg6 arg7 harg7 arg8 harg8 arg9 harg9 arg10 harg10 arg11 harg11 k0_h1 (harg2.unread x1) (harg3.unread x2) (harg4.unread x3) ⟨n, hn⟩
    have hs' : pb_k0_t1 (F := F) 𝒱 c bd i arg1 harg1 arg2 harg2 arg3 harg3 arg4 harg4 arg5 harg5 arg6 harg6 arg7 harg7 arg8 harg8 arg9 harg9 arg10 harg10 arg11 harg11 k0_h1 (harg2.unread x1) (harg3.unread x2) (harg4.unread x3) (n + 1) = _ := hs
    rw [hs'] at hp
    rcases List.mem_append.mp hp with hp | hp
    · refine trip_blocks arg2 harg2 arg3 harg3 arg4 harg4 x1 x2 x3 ⟨n, hn⟩ x5 p ?_
      have := tripL_eq (F := F) 𝒱 c bd i arg1 harg1 arg2 harg2 arg3 harg3 arg4 harg4 arg5 harg5 arg6 harg6 arg7 harg7 arg8 harg8 arg9 harg9 arg10 harg10 arg11 harg11 k0_h1 (harg2.unread x1) (harg3.unread x2) (harg4.unread x3) ⟨n, hn⟩
      rw [← this]; exact hp
    · exact ih (Nat.le_of_succ_le hn) p hp

/-- The trips so far include each of them. -/
theorem pb_mem (k : Fin k0_t1_loop.trips) (n : ℕ) (hn : n ≤ k0_t1_loop.trips) (hk : k.val < n) :
    ∀ p ∈ tripPieces arg2 arg3 arg4 (harg2.unread x1) (harg3.unread x2) (harg4.unread x3) k, p ∈ pb_k0_t1 (F := F) 𝒱 c bd i arg1 harg1 arg2 harg2 arg3 harg3 arg4 harg4 arg5 harg5 arg6 harg6 arg7 harg7 arg8 harg8 arg9 harg9 arg10 harg10 arg11 harg11 k0_h1 (harg2.unread x1) (harg3.unread x2) (harg4.unread x3) n := by
  induction n with
  | zero => exact absurd hk (Nat.not_lt_zero _)
  | succ n ih =>
    intro p hp
    have hs := pb_k0_t1_succ (F := F) 𝒱 c bd i arg1 harg1 arg2 harg2 arg3 harg3 arg4 harg4 arg5 harg5 arg6 harg6 arg7 harg7 arg8 harg8 arg9 harg9 arg10 harg10 arg11 harg11 k0_h1 (harg2.unread x1) (harg3.unread x2) (harg4.unread x3) ⟨n, hn⟩
    have hs' : pb_k0_t1 (F := F) 𝒱 c bd i arg1 harg1 arg2 harg2 arg3 harg3 arg4 harg4 arg5 harg5 arg6 harg6 arg7 harg7 arg8 harg8 arg9 harg9 arg10 harg10 arg11 harg11 k0_h1 (harg2.unread x1) (harg3.unread x2) (harg4.unread x3) (n + 1) = _ := hs
    rw [hs']
    by_cases h : k.val = n
    · refine List.mem_append_left _ ?_
      have := tripL_eq (F := F) 𝒱 c bd i arg1 harg1 arg2 harg2 arg3 harg3 arg4 harg4 arg5 harg5 arg6 harg6 arg7 harg7 arg8 harg8 arg9 harg9 arg10 harg10 arg11 harg11 k0_h1 (harg2.unread x1) (harg3.unread x2) (harg4.unread x3) k
      have hk' : k = ⟨n, hn⟩ := Fin.ext h
      rw [← hk']
      unfold tripL_k0_t1
      rw [this]; exact hp
    · exact List.mem_append_right _ (ih (Nat.le_of_succ_le hn) (by omega) p hp)

/-- The pieces written after the loop, for the last 128 columns. -/
def tailPieces : List (View.Piece (Elt F) S1216x14464 .bf16) :=
  [17, 16, 15, 14, 13, 12, 11, 10, 9, 8, 7, 6, 5, 4, 3, 2, 1, 0].map fun g : Fin 18 =>
    ⟨Rect.unit ![64 * g.val, 128 * (112 : Fin 113).val] S64x128.size (inbWt g 112),
      wdeq (concatenate S64x128 1 [⟨S64x64, rd arg2 (harg2.unread x1) (Rect.unit ![64 * g.val, 7168] S64x64.size (inbPl g))⟩,
          ⟨S64x64, rd arg2 (harg2.unread x1) (Rect.unit ![64 * g.val, 7168] S64x64.size (inbPl g))⟩] concatenates_S64x64_S64x64_S64x128_d1) 0#32
        (rd arg4 (harg4.unread x3) (Rect.unit ![g.val, 128 * (112 : Fin 113).val] S1x128.size (inbZt rfl g 112)))
        (rd arg3 (harg3.unread x2) (Rect.unit ![g.val, 128 * (112 : Fin 113).val] S1x128.size (inbZt rfl g 112)))⟩

/-- Every piece written after the loop is a block of the weights. -/
theorem tail_blocks (x5 : Vec F S64x14464 .bf16) :
    ∀ p ∈ tailPieces arg2 harg2 arg3 harg3 arg4 harg4 x1 x2 x3, ∀ x : p.1.shape.Idx, p.2 x = wAll x1 x2 x3 x5 (p.1.emb x) := by
  intro p hp x
  obtain ⟨g, -, rfl⟩ := List.mem_map.mp hp
  have h2 : ∀ r, rd arg2 (harg2.unread x1) r = View.ld x1 r := fun r => by unfold rd; rw [View.readAt_eq_ld, harg2.read_unread]
  have h3 : ∀ r, rd arg3 (harg3.unread x2) r = View.ld x2 r := fun r => by unfold rd; rw [View.readAt_eq_ld, harg3.read_unread]
  have h4 : ∀ r, rd arg4 (harg4.unread x3) r = View.ld x3 r := fun r => by unfold rd; rw [View.readAt_eq_ld, harg4.read_unread]
  refine Eq.trans ?_ (wTile_emb x1 x2 x3 x5 g 112 rfl (inbWt g 112) x)
  refine congrFun ?_ x
  show wdeq _ _ _ _ = _
  rw [h2, h3, h4]
  unfold wTile wpk wfirst
  rw [dif_neg (by decide), if_pos (by decide)]

/-- The pieces of the whole weight scratch. -/
def wPieces (y5 : Vec F S64x14464 .bf16) : List (View.Piece (Elt F) S1216x14464 .bf16) :=
  ⟨Rect.unit ![1152, 0] S64x14464.size inbR, k0_pay262 y5⟩ ::
    (tailPieces arg2 harg2 arg3 harg3 arg4 harg4 x1 x2 x3 ++ pb_k0_t1 (F := F) 𝒱 c bd i arg1 harg1 arg2 harg2 arg3 harg3 arg4 harg4 arg5 harg5 arg6 harg6 arg7 harg7 arg8 harg8 arg9 harg9 arg10 harg10 arg11 harg11 k0_h1 (harg2.unread x1) (harg3.unread x2) (harg4.unread x3) k0_t1_loop.trips)

/-- The weight scratch after the first point's stores. -/
theorem read_wPieces {κ : Kind} {sp : Space} (w : View sig κ sp S1216x14464 .bf16) (f : w.ty.Contents (Elt F)) (x5 : Vec F S64x14464 .bf16) :
    w.read (Elt F) (w.writes (Elt F) f (wPieces 𝒱 c bd i arg1 harg1 arg2 harg2 arg3 harg3 arg4 harg4 arg5 harg5 arg6 harg6 arg7 harg7 arg8 harg8 arg9 harg9 arg10 harg10 arg11 harg11 k0_h1 x1 x2 x3 x5)) = wAll x1 x2 x3 x5 := by
  apply read_writes_of
  · intro p hp x
    rcases List.mem_cons.mp hp with rfl | hp
    · exact wLow_emb x1 x2 x3 x5 x
    rcases List.mem_append.mp hp with hp | hp
    · exact tail_blocks arg2 harg2 arg3 harg3 arg4 harg4 x1 x2 x3 x5 p hp x
    · exact pb_blocks 𝒱 c bd i arg1 harg1 arg2 harg2 arg3 harg3 arg4 harg4 arg5 harg5 arg6 harg6 arg7 harg7 arg8 harg8 arg9 harg9 arg10 harg10 arg11 harg11 k0_h1 x1 x2 x3 x5 _ le_rfl p hp x
  · intro y
    have h0 : (y 0).val < 1216 := (y 0).isLt
    have h1 : (y 1).val < 14464 := (y 1).isLt
    by_cases h : (y 0).val < 1152
    · by_cases h' : (y 1).val < 14336
      · have hkt : (y 1).val / 256 < k0_t1_loop.trips := by rw [trips_eq]; omega
        by_cases hq : (y 1).val / 128 % 2 = 0
        · refine ⟨_, List.mem_cons_of_mem _ (List.mem_append_right _ (pb_mem 𝒱 c bd i arg1 harg1 arg2 harg2 arg3 harg3 arg4 harg4 arg5 harg5 arg6 harg6 arg7 harg7 arg8 harg8 arg9 harg9 arg10 harg10 arg11 harg11 k0_h1 x1 x2 x3 ⟨(y 1).val / 256, hkt⟩ _ le_rfl hkt _
            (List.mem_flatMap.mpr ⟨⟨(y 0).val / 64, by omega⟩, mem18 _, List.mem_cons_of_mem _ (List.mem_singleton.mpr rfl)⟩))), ?_⟩
          rw [Rect.mem_set_unit, offW_eq0]
          refine Fin.forall_fin_two.mpr ⟨?_, ?_⟩
          · show 64 * ((y 0).val / 64) ≤ (y 0).val ∧ (y 0).val < 64 * ((y 0).val / 64) + 64
            omega
          · show 128 * (2 * ((y 1).val / 256)) ≤ (y 1).val ∧ (y 1).val < 128 * (2 * ((y 1).val / 256)) + 128
            omega
        · refine ⟨_, List.mem_cons_of_mem _ (List.mem_append_right _ (pb_mem 𝒱 c bd i arg1 harg1 arg2 harg2 arg3 harg3 arg4 harg4 arg5 harg5 arg6 harg6 arg7 harg7 arg8 harg8 arg9 harg9 arg10 harg10 arg11 harg11 k0_h1 x1 x2 x3 ⟨(y 1).val / 256, hkt⟩ _ le_rfl hkt _
            (List.mem_flatMap.mpr ⟨⟨(y 0).val / 64, by omega⟩, mem18 _, List.mem_cons_self⟩))), ?_⟩
          rw [Rect.mem_set_unit, offW_eq1]
          refine Fin.forall_fin_two.mpr ⟨?_, ?_⟩
          · show 64 * ((y 0).val / 64) ≤ (y 0).val ∧ (y 0).val < 64 * ((y 0).val / 64) + 64
            omega
          · show 128 * (2 * ((y 1).val / 256) + 1) ≤ (y 1).val ∧ (y 1).val < 128 * (2 * ((y 1).val / 256) + 1) + 128
            omega
      · refine ⟨_, List.mem_cons_of_mem _ (List.mem_append_left _ (List.mem_map.mpr ⟨⟨(y 0).val / 64, by omega⟩, mem18 _, rfl⟩)), ?_⟩
        rw [Rect.mem_set_unit]
        refine Fin.forall_fin_two.mpr ⟨?_, ?_⟩
        · show 64 * ((y 0).val / 64) ≤ (y 0).val ∧ (y 0).val < 64 * ((y 0).val / 64) + 64
          omega
        · show 128 * 112 ≤ (y 1).val ∧ (y 1).val < 128 * 112 + 128
          omega
    · refine ⟨_, List.mem_cons_self, ?_⟩
      rw [Rect.mem_set_unit]
      refine Fin.forall_fin_two.mpr ⟨?_, ?_⟩
      · show 1152 ≤ (y 0).val ∧ (y 0).val < 1152 + 64
        omega
      · show 0 ≤ (y 1).val ∧ (y 1).val < 0 + 14464
        omega

/-- The same for the list as the body's run names it. -/
theorem w_of {κ : Kind} {sp : Space} (w : View sig κ sp S1216x14464 .bf16) (f : w.ty.Contents (Elt F)) (y5 x5 : Vec F S64x14464 .bf16) (h5 : y5 = x5)
    (L : List (View.Piece (Elt F) S1216x14464 .bf16)) (hL : L = wPieces 𝒱 c bd i arg1 harg1 arg2 harg2 arg3 harg3 arg4 harg4 arg5 harg5 arg6 harg6 arg7 harg7 arg8 harg8 arg9 harg9 arg10 harg10 arg11 harg11 k0_h1 x1 x2 x3 y5) :
    w.read (Elt F) (w.writes (Elt F) f L) = wAll x1 x2 x3 x5 := by
  rw [hL, h5]; exact read_wPieces 𝒱 c bd i arg1 harg1 arg2 harg2 arg3 harg3 arg4 harg4 arg5 harg5 arg6 harg6 arg7 harg7 arg8 harg8 arg9 harg9 arg10 harg10 arg11 harg11 k0_h1 x1 x2 x3 w f x5

end

end Cert.KernelIdeal.Val

end
-- ==== Proof.Val.RunA.lean ====
module

public import proofs.«01_k».proof.Proof.Val.RunB
public import proofs.«01_k».proof.Proof.Val.Weights

@[expose] public section

-- membership in a rectangle of production extents (`View.cover_of_tiled`): the elaborator's structural look
-- recurses once per coordinate of the long axes
set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2928000 in
/-- The body at the first point: it first dequantises the weights into their scratch, then does what it does at the others. -/
theorem valA (c : Dev nD) (i : grid0.Coords) (arg1 : Memref sig .tc .vmem S256x1152 .bf16) (harg1 : arg1.IsWhole) (arg2 : Memref sig .tc .vmem S1152x7232 .i8) (harg2 : arg2.IsWhole) (arg3 : Memref sig .tc .vmem S18x14464 .f32) (harg3 : arg3.IsWhole) (arg4 : Memref sig .tc .vmem S18x14464 .bf16) (harg4 : arg4.IsWhole) (arg5 : Memref sig .tc .vmem S1152x64 .bf16) (harg5 : arg5.IsWhole) (arg6 : Memref sig .tc .vmem S64x14464 .bf16) (harg6 : arg6.IsWhole) (arg7 : Memref sig .tc .vmem S256x14464 .bf16) (harg7 : arg7.IsWhole) (arg8 : Memref sig .tc .vmem S256x576 .i8) (harg8 : arg8.IsWhole) (arg9 : Memref sig .tc .vmem S256x18 .f32) (harg9 : arg9.IsWhole) (arg10 : Memref sig .tc .vmem S1216x14464 .bf16) (harg10 : arg10.IsWhole) (arg11 : Memref sig .tc .vmem S256x1216 .bf16) (harg11 : arg11.IsWhole) (hc0 : cond0_0 i)
    (x0 : Vec F S256x1152 .bf16) (x1 : Vec F S1152x7232 .i8) (x2 : Vec F S18x14464 .f32) (x3 : Vec F S18x14464 .bf16) (x4 : Vec F S1152x64 .bf16) (x5 : Vec F S64x14464 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay3 (aAll (xp x0) (k0_pay2 x0 x4)) (wAll x1 x2 x3 x5)) ∗ owns (c : Thread nD τ) arg8 fullShare (cAll (xp x0)) ∗ owns (c : Thread nD τ) arg9 fullShare (sAll (xp x0)) ∗ owns (c : Thread nD τ) arg10 fullShare (wAll x1 x2 x3 x5) ∗ (∃ d, owns (c : Thread nD τ) arg11 fullShare d)) -∗ K ⟨⟩))
          ⊢ wp frame (wpE (defs₀ (F := F)) Variants.none c none) E (cc0_w4a4 i arg1 harg1 arg2 harg2 arg3 harg3 arg4 harg4 arg5 harg5 arg6 harg6 arg7 harg7 arg8 harg8 arg9 harg9 arg10 harg10 arg11 harg11) K := by
    intro E K
    simp only [cc0_w4a4_eq_skeleton]; unfold cc0_w4a4_skel
    simp only [k0_part182_eq_skeleton, k0_part72_eq_skeleton, k0_part71_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part183_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine y_of _ _ _ _ _ _ _ ?_ ?_
      · exact a_of (a := arg1) (h := harg1) (x := x0) (a' := arg5) (h' := harg5) (x' := x4) _ _ _ inb_S256x1152_S256x1152_0_0 inb_S1152x64_S1152x64_0_0 rfl
      · rw [View.readAt_full]
        exact w_of Variants.none c none i arg1 harg1 arg2 harg2 arg3 harg3 arg4 harg4 arg5 harg5 arg6 harg6 arg7 harg7 arg8 harg8 arg9 harg9 arg10 harg10 arg11 harg11 hc0 x1 x2 x3 _ _ _ x5 (by rw [View.readAt_full, harg6.read_unread]) _ rfl
    isplitl [H7]
    · iexists _; isplitr; swap; · iexact H7
      ipureintro
      exact c_of (a := arg1) (h := harg1) (x := x0) _ _ _ rfl
    isplitl [H8]
    · iexists _; isplitr; swap; · iexact H8
      ipureintro
      exact s_of (a := arg1) (h := harg1) (x := x0) _ _ _ rfl
    isplitl [HS0]
    · iexists _; isplitr; swap; · iexact HS0
      ipureintro
      exact w_of Variants.none c none i arg1 harg1 arg2 harg2 arg3 harg3 arg4 harg4 arg5 harg5 arg6 harg6 arg7 harg7 arg8 harg8 arg9 harg9 arg10 harg10 arg11 harg11 hc0 x1 x2 x3 _ _ _ x5 (by rw [View.readAt_full, harg6.read_unread]) _ rfl
    iexists _, _; isplitr; swap; · iexact HS1
    ipureintro; rfl

end Cert.KernelIdeal.Val

end
-- ==== Proof.Val.Launch.lean ====
module

public import proofs.«01_k».proof.Proof.Val.RunA
public import Idealize.ShloMosaic.Lib.Claim

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the grid. -/
def t0 : Fin cfg0.N := ⟨0, by rw [show cfg0.N = 48 from N_0]; decide⟩

/-- The dequantised weights, from the windows' blocks at the first point. -/
def wF (c : Dev nD) : Vec F S1216x14464 .bf16 := wAll (iblk m c 1 t0) (iblk m c 2 t0) (iblk m c 3 t0) (iblk m c 5 t0)

/-- The product's block at point `t`. -/
def yF (c : Dev nD) (t : Fin cfg0.N) : Vec F S256x14464 .bf16 := k0_pay3 (aAll (xp (iblk m c 0 t)) (k0_pay2 (iblk m c 0 t) (iblk m c 4 t))) (wF m c)

/-- The scratch of the weights before point `n`: anything before the first, the dequantised weights after. -/
def wInv (c : Dev nD) (n : ℕ) : sProp 𝕄 :=
  if n = 0 then iprop(∃ d, owns (c : Thread nD τ) scM0_0 fullShare d) else owns (c : Thread nD τ) scM0_0 fullShare (wF m c)

/-- The invariant before point `n`. -/
def PhiV (c : Dev nD) (n : ℕ) : sProp 𝕄 :=
  iprop(iprop(wInv m c n ∗ (∃ d, owns (c : Thread nD τ) scM0_1 fullShare d)) ∗ (∃ r, prngReg c r))

/-- The proof data of the pipeline on core `c`: after the body at point `t` the inputs' windows hold their blocks, the
    outputs' the product, the packed codes and the scales of the point's rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yF m c t
    | ⟨7, _⟩ => cAll (xp (iblk m c 0 t))
    | ⟨8, _⟩ => sAll (xp (iblk m c 0 t))
  Φ n := PhiV m c n.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The body leaves input window 1's block in place. -/
theorem after0_1 (c : Dev nD) (t : Fin cfg0.N) : (dats m 0 c).after 1 t = iblk m c 1 t := by dsimp only [dats]
/-- The body leaves input window 2's block in place. -/
theorem after0_2 (c : Dev nD) (t : Fin cfg0.N) : (dats m 0 c).after 2 t = iblk m c 2 t := by dsimp only [dats]
/-- The body leaves input window 3's block in place. -/
theorem after0_3 (c : Dev nD) (t : Fin cfg0.N) : (dats m 0 c).after 3 t = iblk m c 3 t := by dsimp only [dats]
/-- The body leaves input window 4's block in place. -/
theorem after0_4 (c : Dev nD) (t : Fin cfg0.N) : (dats m 0 c).after 4 t = iblk m c 4 t := by dsimp only [dats]
/-- The body leaves input window 5's block in place. -/
theorem after0_5 (c : Dev nD) (t : Fin cfg0.N) : (dats m 0 c).after 5 t = iblk m c 5 t := by dsimp only [dats]

/-- What the body leaves in the product window. -/
theorem after0_6 (c : Dev nD) (t : Fin cfg0.N) : (dats m 0 c).after 6 t = yF m c t := by dsimp only [dats]
/-- What the body leaves in the packed-code window. -/
theorem after0_7 (c : Dev nD) (t : Fin cfg0.N) : (dats m 0 c).after 7 t = cAll (xp (iblk m c 0 t)) := by dsimp only [dats]
/-- What the body leaves in the scale window. -/
theorem after0_8 (c : Dev nD) (t : Fin cfg0.N) : (dats m 0 c).after 8 t = sAll (xp (iblk m c 0 t)) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Input window 1 holds its block when the body starts. -/
theorem before0_1 (c : Dev nD) (t : Fin cfg0.N) (d) : (dats m 0 c).before 1 t d = iblk m c 1 t :=
  before0_1_of m (dats m 0 c) (A_eq m c 1) (after0_1 m c) t d
/-- Input window 2 holds its block when the body starts. -/
theorem before0_2 (c : Dev nD) (t : Fin cfg0.N) (d) : (dats m 0 c).before 2 t d = iblk m c 2 t :=
  before0_2_of m (dats m 0 c) (A_eq m c 2) (after0_2 m c) t d
/-- Input window 3 holds its block when the body starts. -/
theorem before0_3 (c : Dev nD) (t : Fin cfg0.N) (d) : (dats m 0 c).before 3 t d = iblk m c 3 t :=
  before0_3_of m (dats m 0 c) (A_eq m c 3) (after0_3 m c) t d
/-- Input window 4 holds its block when the body starts. -/
theorem before0_4 (c : Dev nD) (t : Fin cfg0.N) (d) : (dats m 0 c).before 4 t d = iblk m c 4 t :=
  before0_4_of m (dats m 0 c) (A_eq m c 4) (after0_4 m c) t d
/-- Input window 5 holds its block when the body starts. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8]
  rw [show (dats m 0 c).Φ t.castSucc = PhiV m c t.val from rfl, show (dats m 0 c).Φ t.succ = PhiV m c (t.val + 1) from rfl]
  unfold PhiV
  rw [show wInv m c (t.val + 1) = owns (c : Thread nD τ) scM0_0 fullShare (wF m c) from if_neg (Nat.succ_ne_zero _)]
  have hN : t.val < 48 := lt_of_lt_of_eq t.isLt (show cfg0.N = 48 from N_0)
  by_cases h0 : t.val % 48 = 0
  · have ht : t = t0 := Fin.ext (by show t.val = 0; omega)
    subst ht
    rw [show wInv m c (t0).val = iprop(∃ d, owns (c : Thread nD τ) scM0_0 fullShare d) from if_pos rfl]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((valA c (grid0.coords t0) _ _ _ _ _ _ _ _ _ _ _ _ _ _ _ _ _ _ _ _ _ _ ((hcond0_0 t0).mpr h0) (iblk m c 0 t0) (iblk m c 1 t0) (iblk m c 2 t0) (iblk m c 3 t0) (iblk m c 4 t0) (iblk m c 5 t0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have ht : t.val ≠ 0 := by omega
    rw [show wInv m c t.val = owns (c : Thread nD τ) scM0_0 fullShare (wF m c) from if_neg ht]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((valB c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (wF m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- What the region gives the invariant at entry. -/
theorem phi_in (c : Dev nD) : Pipeline.ΦA spec0 c ⊢ (dats (F := F) m 0 c).Φ 0 := by
  rw [show (dats m 0 c).Φ 0 = PhiV m c 0 from rfl, PhiA0_eq]
  unfold PhiV
  rw [show wInv m c 0 = iprop(∃ d, owns (c : Thread nD τ) scM0_0 fullShare d) from if_pos rfl]

/-- What the invariant gives back at the end. -/
theorem phi_out (c : Dev nD) : (dats (F := F) m 0 c).Φ (Fin.last cfg0.N) ⊢ Pipeline.ΦA spec0 c := by
  rw [show (dats m 0 c).Φ (Fin.last cfg0.N) = PhiV m c cfg0.N from rfl, PhiA0_eq]
  unfold PhiV
  rw [show wInv m c cfg0.N = owns (c : Thread nD τ) scM0_0 fullShare (wF m c) from if_neg (by rw [show cfg0.N = 48 from N_0]; decide)]
  iintro ⟨⟨HS0, HS1⟩, Hg⟩
  isplitl [HS0 HS1]
  · isplitl [HS0]
    · iexists _; iexact HS0
    iexact HS1
  iexact Hg

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every run ends with the arrays as the proof data says, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The kernel leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Val

end
-- ==== Proof.Val.Spec.lean ====
/- The mathematics both programs compute, on the extended reals: the scale of a group of 64 activations, its 4-bit code,
   and the facts about rounding, clipping and converting that make the two spellings agree. -/
module

public import Idealize.ShloMosaic.Lib.Pointwise

@[expose] public section

noncomputable section

namespace Cert.Spec

open Idealize.ShloMosaic

/-- The largest absolute value in group `g` of a row of 1152 activations. -/
def amx (x : Fin 1152 → EReal) (g : Fin 18) : EReal :=
  Finset.univ.fold max (Ideal.ofBits .f32 0xFF800000#32) fun k : Fin 64 =>
    (max (x ⟨g.val * 64 + k.val, by omega⟩) (-(x ⟨g.val * 64 + k.val, by omega⟩)) : EReal)

/-- The scale of a group whose largest absolute value is `a`: a seventh of it, or one when it is zero. -/
def gs (a : EReal) : EReal := if 0 < a then Ideal.div a (Ideal.ofBits .f32 0x40E00000#32) else 1

/-- A value rounded to the nearest integer (ties to even) and clipped to `[-8, 7]`. -/
def rc (z : EReal) : EReal :=
  min (Ideal.ofBits .f32 0x40E00000#32) (max (Ideal.ofBits .f32 0xC1000000#32) (Ideal.liftRound Ideal.roundHalfEven z))

/-- The code of activation `k`: the activation over its group's scale, rounded and clipped. -/
def cq (x : Fin 1152 → EReal) (k : Fin 1152) : EReal := rc (Ideal.div (x k) (gs (amx x ⟨k.val / 64, by omega⟩)))

/-- The dequantised activation `k`: its code times its group's scale. -/
def dq (x : Fin 1152 → EReal) (k : Fin 1152) : EReal := cq x k * gs (amx x ⟨k.val / 64, by omega⟩)

/-- Two 4-bit codes in a byte, the first in the low half. -/
def byte (a b : BitVec 32) : BitVec 8 :=
  BitVec.setWidth 8 (IntOp.ori (IntOp.andi a 15#32) (IntOp.shli ArithUnit.host (IntOp.andi b 15#32) 4#32))

/-- The weight nibble of a byte: the low half for an even column, the high half for an odd one. -/
def nibble (w : BitVec 8) (c : Nat) : BitVec 32 :=
  if c % 2 < 1 then IntOp.andi (BitVec.setWidth 32 w) 15#32 else IntOp.shrsi ArithUnit.host (BitVec.setWidth 32 w) 4#32

/-- A dequantised weight: the nibble less the zero point, times the scale. -/
def wt (w : BitVec 8) (c : Nat) (z s : EReal) : EReal := ((((nibble w c).toInt : ℝ) : EReal) - z) * s

/-- The upper clip bound is seven. -/
theorem seven : Ideal.ofBits .f32 0x40E00000#32 = ((7 : ℝ) : EReal) := by
  simp [Ideal.ofBits, Ideal.ieee]
  rw [← EReal.coe_mul]; norm_num

/-- The lower clip bound is minus eight. -/
theorem meight : Ideal.ofBits .f32 0xC1000000#32 = ((-8 : ℝ) : EReal) := by
  simp [Ideal.ofBits, Ideal.ieee]
  rw [← EReal.coe_mul]; norm_num

/-- The fold's start is minus infinity. -/
theorem minf : Ideal.ofBits .f32 0xFF800000#32 = ⊥ := by
  simp [Ideal.ofBits, Ideal.ieee]

/-- A rounded and clipped value is an integer between minus eight and seven. -/
theorem rc_int (z : EReal) : ∃ n : ℤ, -8 ≤ n ∧ n ≤ 7 ∧ rc z = ((n : ℝ) : EReal) := by
  unfold rc
  rw [seven, meight]
  have mono := EReal.coe_strictMono.monotone
  induction z with
  | bot =>
    refine ⟨-8, by decide, by decide, ?_⟩
    rw [Ideal.liftRound_bot, max_eq_left bot_le, ← mono.map_min]
    congr 1; norm_num
  | top =>
    refine ⟨7, by decide, by decide, ?_⟩
    rw [Ideal.liftRound_top, max_eq_right le_top, min_eq_left le_top]
    congr 1
  | coe r =>
    refine ⟨min 7 (max (-8) (Ideal.roundHalfEven r)), by omega, by omega, ?_⟩
    rw [Ideal.liftRound_coe, ← mono.map_max, ← mono.map_min, Int.cast_min, Int.cast_max]
    congr 1; norm_num

/-- Converting an integer value within the signed range of a width gives that integer. -/
theorem fptosi_int (w : Nat) (n : ℤ) (h1 : -(2 ^ (w - 1) : Nat) ≤ n) (h2 : n ≤ (2 ^ (w - 1) : Nat) - 1) :
    Ideal.fptosi w ((n : ℝ) : EReal) = BitVec.ofInt w n := by
  unfold Ideal.fptosi
  rw [Ideal.toIntClamped_coe, Int.floor_intCast, Int.ceil_intCast, ite_self, min_eq_right h2, max_eq_right h1]

/-- Converting a code to 32 bits and back gives the code. -/
theorem rc_back (z : EReal) : (((Ideal.fptosi 32 (rc z)).toInt : ℝ) : EReal) = rc z := by
  obtain ⟨n, h1, h2, e⟩ := rc_int z
  rw [e, fptosi_int 32 n (by norm_num; omega) (by norm_num; omega), BitVec.toInt_ofInt_eq_self (by decide) (by norm_num; omega) (by norm_num; omega)]

/-- A code's 8-bit form is the low byte of its 32-bit form. -/
theorem rc_byte (z : EReal) : Ideal.fptosi 8 (rc z) = (Ideal.fptosi 32 (rc z)).setWidth 8 := by
  obtain ⟨n, h1, h2, e⟩ := rc_int z
  rw [e, fptosi_int 8 n (by norm_num; omega) (by norm_num; omega), fptosi_int 32 n (by norm_num; omega) (by norm_num; omega)]
  interval_cases n <;> rfl

/-- Masking lanes with zeros does not change a running maximum of values that are not negative: over 128 lanes, the maximum
    of `f` on the lanes `off ≤ k < off + 64` and zero elsewhere is the maximum of `f` over those 64 lanes. -/
theorem fold_half (f : Fin 128 → EReal) (hf : ∀ k, 0 ≤ f k) (p : Fin 128 → Prop) [DecidablePred p] (off : Nat) (ho : off + 64 ≤ 128)
    (hp : ∀ k, p k ↔ off ≤ k.val ∧ k.val < off + 64) (b : EReal) :
    (Finset.univ.fold max b fun k : Fin 128 => if p k then f k else 0)
      = Finset.univ.fold max b fun k : Fin 64 => f ⟨off + k.val, by omega⟩ := by
  apply le_antisymm
  · rw [Finset.fold_max_le]
    refine ⟨(Finset.le_fold_max _).mpr (Or.inl le_rfl), fun k _ => ?_⟩
    by_cases h : p k
    · rw [if_pos h]
      have h' := (hp k).mp h
      refine (Finset.le_fold_max _).mpr (Or.inr ⟨⟨k.val - off, by omega⟩, Finset.mem_univ _, ?_⟩)
      apply le_of_eq; congr 1; apply Fin.ext; show k.val = off + (k.val - off); omega
    · rw [if_neg h]
      exact (Finset.le_fold_max _).mpr (Or.inr ⟨0, Finset.mem_univ _, hf _⟩)
  · rw [Finset.fold_max_le]
    refine ⟨(Finset.le_fold_max _).mpr (Or.inl le_rfl), fun k _ => ?_⟩
    refine (Finset.le_fold_max _).mpr (Or.inr ⟨⟨off + k.val, by omega⟩, Finset.mem_univ _, ?_⟩)
    rw [if_pos ((hp _).mpr ⟨by show off ≤ off + k.val; omega, by show off + k.val < off + 64; omega⟩)]

/-- An absolute value is not negative. -/
theorem abs_nonneg (a : EReal) : 0 ≤ max a (-a) := by
  rcases le_total 0 a with h | h
  · exact le_max_of_le_left h
  · exact le_max_of_le_right (EReal.neg_nonneg.mpr h)

end Cert.Spec

end
-- ==== Proof.Val.Acts.lean ====
/- The kernel's scales, codes and dequantised activations on the extended reals: a row block's are its rows'. -/
module

public import proofs.«01_k».proof.Proof.Val.Spec
public import proofs.«01_k».proof.Proof.Val.Tile
public import Idealize.ShloMosaic.Lib.Pointwise

@[expose] public section

set_option maxRecDepth 16384

noncomputable section

namespace Cert.KernelIdeal.Val

open Cert.KernelIdeal Cert.KernelIdeal.Gen Idealize.ShloMosaic

/-- A row of a block of activations. -/
abbrev rowX (v : FVec Ideal S32x1152 .bf16) (r : Fin 32) : Fin 1152 → EReal := fun k => v (ix2 r k)

/-- The test for a tile's first group, lane by lane. -/
theorem low_lane : ∀ k : Fin 128, IntOp.cmpi .slt (BitVec.ofNat 32 k.val) 64#32 = if k.val < 64 then 1#1 else 0#1 := by
  decide +kernel

/-- A choice on the group test is a choice on the lane. -/
theorem sel_low {α : Type} (k : Fin 128) (a b : α) :
    Scalar.select (IntOp.cmpi .slt (BitVec.ofNat 32 k.val) 64#32) a b = if k.val < 64 then a else b := by
  rw [low_lane]
  by_cases h : k.val < 64 <;> simp [h, Scalar.select]

/-- A tile's element. -/
theorem tile_apply (v : FVec Ideal S32x1152 .bf16) (t : Fin 9) (r : Fin 32) (l : Fin 128) :
    tile v t (ix2 r l) = v (ix2 r ⟨128 * t.val + l.val, by omega⟩) := by
  pointwise [tile]

/-- The first group's largest absolute value. -/
theorem a0_tile (v : FVec Ideal S32x1152 .bf16) (t : Fin 9) (r : Fin 32) (z : Fin 1) :
    a0 (tile v t) (ix2 r z) = Spec.amx (rowX v r) ⟨2 * t.val, by omega⟩ := by
  have e : a0 (tile v t) (ix2 r z) = Finset.univ.fold max (Ideal.ofBits .f32 0xFF800000#32) fun k : Fin 128 =>
      Scalar.select (IntOp.cmpi .slt (BitVec.ofNat 32 k.val) 64#32) (FloatOps.absf (tile v t (ix2 r k))) 0 := by
    generalize tile v t = x
    pointwise [a0, low, lane, zeroB]
  rw [e]
  simp only [sel_low]
  refine (Spec.fold_half (fun k => FloatOps.absf (tile v t (ix2 r k))) (fun k => Spec.abs_nonneg _) (fun k => k.val < 64) 0 (by decide)
    (fun k => by omega) _).trans ?_
  unfold Spec.amx
  congr 1
  funext k
  rw [tile_apply]
  have h : (⟨128 * t.val + (0 + k.val), by omega⟩ : Fin 1152) = ⟨2 * t.val * 64 + k.val, by omega⟩ := Fin.ext (by show 128 * t.val + (0 + k.val) = 2 * t.val * 64 + k.val; omega)
  exact congrArg (fun q : Fin 1152 => (max (v (ix2 r q)) (-(v (ix2 r q))) : EReal)) h

/-- The second group's largest absolute value. -/
theorem a1_tile (v : FVec Ideal S32x1152 .bf16) (t : Fin 9) (r : Fin 32) (z : Fin 1) :
    a1 (tile v t) (ix2 r z) = Spec.amx (rowX v r) ⟨2 * t.val + 1, by omega⟩ := by
  have e : a1 (tile v t) (ix2 r z) = Finset.univ.fold max (Ideal.ofBits .f32 0xFF800000#32) fun k : Fin 128 =>
      Scalar.select (IntOp.cmpi .slt (BitVec.ofNat 32 k.val) 64#32) 0 (FloatOps.absf (tile v t (ix2 r k))) := by
    generalize tile v t = x
    pointwise [a1, low, lane, zeroB]
  rw [e]
  simp only [sel_low]
  have e2 : ∀ k : Fin 128, (if k.val < 64 then (0 : EReal) else FloatOps.absf (tile v t (ix2 r k)))
      = if ¬ k.val < 64 then FloatOps.absf (tile v t (ix2 r k)) else 0 := fun k => by rw [ite_not]
  simp only [e2]
  refine (Spec.fold_half (fun k => FloatOps.absf (tile v t (ix2 r k))) (fun k => Spec.abs_nonneg _) (fun k => ¬ k.val < 64) 64 (by decide)
    (fun k => by omega) _).trans ?_
  unfold Spec.amx
  congr 1
  funext k
  rw [tile_apply]
  have h : (⟨128 * t.val + (64 + k.val), by omega⟩ : Fin 1152) = ⟨(2 * t.val + 1) * 64 + k.val, by omega⟩ := Fin.ext (by show 128 * t.val + (64 + k.val) = (2 * t.val + 1) * 64 + k.val; omega)
  exact congrArg (fun q : Fin 1152 => (max (v (ix2 r q)) (-(v (ix2 r q))) : EReal)) h

/-- The scale that goes with a largest absolute value, pointwise. -/
theorem gsc_apply (a : FVec Ideal S32x128 .f32) (r : Fin 32) (l : Fin 128) : gsc a (ix2 r l) = Spec.gs (a (ix2 r l)) := by
  pointwise [gsc, zeroB]
  rfl

/-- Each element's scale is its group's. -/
theorem scl_tile (v : FVec Ideal S32x1152 .bf16) (t : Fin 9) (r : Fin 32) (l : Fin 128) :
    scl (tile v t) (ix2 r l) = Spec.gs (Spec.amx (rowX v r) ⟨(128 * t.val + l.val) / 64, by omega⟩) := by
  rw [scl, gsc_apply]
  congr 1
  have e : select low (spread (a0 (tile v t))) (spread (a1 (tile v t))) (ix2 r l)
      = Scalar.select (IntOp.cmpi .slt (BitVec.ofNat 32 l.val) 64#32) (a0 (tile v t) (ix2 r 0)) (a1 (tile v t) (ix2 r 0)) := by
    generalize a0 (tile v t) = p
    generalize a1 (tile v t) = q
    pointwise [low, lane, spread]
  rw [e, sel_low, a0_tile, a1_tile]
  split
  · congr 1; apply Fin.ext; show 2 * t.val = (128 * t.val + l.val) / 64; omega
  · congr 1; apply Fin.ext; show 2 * t.val + 1 = (128 * t.val + l.val) / 64; omega

/-- Each element's code. -/
theorem code_tile (v : FVec Ideal S32x1152 .bf16) (t : Fin 9) (r : Fin 32) (l : Fin 128) :
    code (tile v t) (ix2 r l) = Spec.cq (rowX v r) ⟨128 * t.val + l.val, by omega⟩ := by
  have e : code (tile v t) (ix2 r l) = Spec.rc (Ideal.div (tile v t (ix2 r l)) (scl (tile v t) (ix2 r l))) := by
    generalize tile v t = x
    pointwise [code]
    rfl
  rw [e, scl_tile, tile_apply]
  rfl

/-- The dequantised tile. -/
theorem deqS_tile (v : FVec Ideal S32x1152 .bf16) (t : Fin 9) (r : Fin 32) (l : Fin 128) :
    deqS (tile v t) (ix2 r l) = Spec.dq (rowX v r) ⟨128 * t.val + l.val, by omega⟩ := by
  have e : deqS (tile v t) (ix2 r l) = code (tile v t) (ix2 r l) * scl (tile v t) (ix2 r l) := by
    generalize tile v t = x
    pointwise [deqS, deq]
  rw [e, code_tile, scl_tile]
  rfl

/-- One step of placing group maxima, pointwise. -/
theorem amStep_apply (t : Fin 9) (x acc : FVec Ideal S32x128 .f32) (r : Fin 32) (l : Fin 128) :
    amStep t x acc (ix2 r l) = if l.val = 2 * t.val + 1 then a1 x (ix2 r 0) else if l.val = 2 * t.val then a0 x (ix2 r 0) else acc (ix2 r l) := by
  have e : amStep t x acc (ix2 r l) = Scalar.select (IntOp.cmpi .eq (BitVec.ofNat 32 l.val) (BitVec.ofNat 32 (2 * t.val + 1))) (a1 x (ix2 r 0))
      (Scalar.select (IntOp.cmpi .eq (BitVec.ofNat 32 l.val) (BitVec.ofNat 32 (2 * t.val))) (a0 x (ix2 r 0)) (acc (ix2 r l))) := by
    pointwise [amStep, lane, spread]
  have d : ∀ n : Nat, n < 128 → IntOp.cmpi .eq (BitVec.ofNat 32 l.val) (BitVec.ofNat 32 n) = if l.val = n then 1#1 else 0#1 := by
    intro n hn
    have h : (BitVec.ofNat 32 l.val = BitVec.ofNat 32 n) ↔ l.val = n := by
      constructor
      · intro h
        have := congrArg BitVec.toNat h
        simp only [BitVec.toNat_ofNat] at this
        omega
      · intro h; rw [h]
    by_cases hl : l.val = n
    · simp [IntOp.cmpi, hl]
    · rw [if_neg hl]
      simp only [IntOp.cmpi, beq_eq_false_iff_ne.mpr (fun e => hl (h.mp e))]
      rfl
  rw [e, d _ (by omega), d _ (by omega)]
  by_cases h1 : l.val = 2 * t.val + 1
  · simp [h1, Scalar.select]
  · by_cases h2 : l.val = 2 * t.val <;> simp [h1, h2, Scalar.select]

/-- Lane `g` of the placed maxima is group `g`'s. -/
theorem amAll_apply (v : FVec Ideal S32x1152 .bf16) (r : Fin 32) (g : Fin 18) :
    amAll v (ix2 r ⟨g.val, by omega⟩) = Spec.amx (rowX v r) g := by
  unfold amAll
  simp only [amStep_apply, a0_tile, a1_tile]
  fin_cases g <;> rfl

/-- The scales of a row block are its rows' group scales. -/
theorem scales_apply (v : FVec Ideal S32x1152 .bf16) (r : Fin 32) (g : Fin 18) :
    scales v (ix2 r g) = Spec.gs (Spec.amx (rowX v r) g) := by
  have e : scales v (ix2 r g) = gsc (amAll v) (ix2 r ⟨g.val, by omega⟩) := by
    pointwise [scales]
  rw [e, gsc_apply, amAll_apply]

end Cert.KernelIdeal.Val

end
-- ==== Proof.Val.Codes.lean ====
/- The packed codes: byte `l` of a row holds codes `2l` and `2l + 1`. The kernel works on words of four rows; every fact here
   is about one bit. -/
module

public import proofs.«01_k».proof.Proof.Val.Acts
public import Idealize.ShloMosaic.Lib.BitcastFour

@[expose] public section

set_option maxRecDepth 16384

noncomputable section

namespace Cert.KernelIdeal.Val

open Cert.KernelIdeal Cert.KernelIdeal.Gen Idealize.ShloMosaic

/-- The nibble mask's bits. -/
theorem mask_bit : ∀ q : Fin 32, (252645135#32).getLsbD q.val = decide (q.val % 8 < 4) := by decide

/-- A word read as four bytes, at rank two: bit `q` of row `r`'s byte is bit `8 (r % 4) + q` of word row `r / 4`. -/
theorem bytes_bit {R r n : Nat} (x : (⟨2, ![r, n]⟩ : Shape).Idx → BitVec 32)
    (h : (⟨2, ![r, n]⟩ : Shape).Bitcasts 32 ⟨2, ![R, n]⟩ 8) (i : Fin R) (l : Fin n) (q : Nat) (hq : q < 8) (a : Fin r)
    (ha : a.val = i.val / 4) :
    (bitcast ⟨2, ![R, n]⟩ 8 x h (ix2 i l)).getLsbD q = (x (ix2 a l)).getLsbD (8 * (i.val % 4) + q) := by
  rw [bitcast_getLsbD x h _ q hq (by decide)]
  have hr : Shape.row ⟨2, ![R, n]⟩ (ix2 i l) = i.val := rfl
  have e1 : (Shape.row ⟨2, ![R, n]⟩ (ix2 i l) * 8 + q) / 32 = a.val := by rw [hr]; omega
  have e2 : (Shape.row ⟨2, ![R, n]⟩ (ix2 i l) * 8 + q) % 32 = 8 * (i.val % 4) + q := by rw [hr]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The codes of a tile, as bytes. -/
def cByte (x : FVec Ideal S32x128 .f32) : IVec S32x128 8 := fptosi 8 (code x)

/-- A nibble word's bit `q`: a code's bit, if it lies in the low half of its byte. -/
theorem nib_bit (x : FVec Ideal S32x128 .f32) (a : Fin 8) (l : Fin 128) (q : Nat) (hq : q < 32) (p : Fin 32)
    (hp : p.val = 4 * a.val + q / 8) :
    (nib x (ix2 a l)).getLsbD q = ((cByte x (ix2 p l)).getLsbD (q % 8) && decide (q % 8 < 4)) := by
  show (IntOp.andi (bitcast S8x128 32 (cByte x) bitcasts_S32x128_w8_S8x128_w32 (ix2 a l)) 252645135#32).getLsbD q = _
  rw [IntOp.andi, BitVec.getLsbD_and, mask_bit ⟨q, hq⟩]
  exact congrArg (· && decide (q % 8 < 4)) (bitcast_8_32_getLsbD_ix2 (cByte x) bitcasts_S32x128_w8_S8x128_w32 a l q hq p hp)

/-- The next lane around the tile. -/
abbrev nextL (l : Fin 128) : Fin 128 := ⟨(l.val + 128 - 127) % 128, Nat.mod_lt _ (by decide)⟩

/-- A pair word's bit `q`. -/
theorem word_bit (x : FVec Ideal S32x128 .f32) (a : Fin 8) (l : Fin 128) (q : Nat) (hq : q < 32) :
    (word x (ix2 a l)).getLsbD q = ((nib x (ix2 a l)).getLsbD q || (!decide (q < 4) && (nib x (ix2 a (nextL l))).getLsbD (q - 4))) := by
  have e : word x (ix2 a l) = IntOp.ori (nib x (ix2 a l)) (IntOp.shli ArithUnit.vector (nib x (ix2 a (nextL l))) 4#32) := by
    pointwise [word]
  have e2 : ∀ w : BitVec 32, IntOp.shli ArithUnit.vector w 4#32 = w <<< 4 := fun _ => rfl
  rw [e, e2, IntOp.ori, BitVec.getLsbD_or, BitVec.getLsbD_shiftLeft]
  simp [hq]

/-- The gather's index at lane `l` is the even lane `2 l`, modulo the tile. -/
theorem gix_lane : ∀ l : Fin 128, (Scalar.select (IntOp.cmpi CmpIPredicate.slt (IntOp.andi (IntOp.muli (2#32) (BitVec.ofNat 32 l.val)) 127#32) 0#32)
      (IntOp.addi (IntOp.andi (IntOp.muli (2#32) (BitVec.ofNat 32 l.val)) 127#32) 128#32)
      (IntOp.andi (IntOp.muli (2#32) (BitVec.ofNat 32 l.val)) 127#32)).toNat % 128 = 2 * (l.val % 64) := by
  decide +kernel

/-- The two gathered tiles side by side, pointwise. -/
theorem pair_apply (w w' : IVec S8x128 32) (a : Fin 8) (l : Fin 128) :
    select (cmpi .slt lane8 (broadcast S8x128 64#32)) (dynamicGather 1 w gix) (dynamicGather 1 w' gix) (ix2 a l)
      = if l.val < 64 then w (ix2 a ⟨2 * (l.val % 64), by omega⟩) else w' (ix2 a ⟨2 * (l.val % 64), by omega⟩) := by
  have g : (gix (ix2 a l)).toNat % 128 = 2 * (l.val % 64) := by
    rw [← gix_lane l]
    congr 2
    pointwise [gix, even8, lane8]
  have e : select (cmpi .slt lane8 (broadcast S8x128 64#32)) (dynamicGather 1 w gix) (dynamicGather 1 w' gix) (ix2 a l)
      = Scalar.select (IntOp.cmpi .slt (BitVec.ofNat 32 l.val) 64#32)
        (w (ix2 a ⟨(gix (ix2 a l)).toNat % 128, Nat.mod_lt _ (by decide)⟩)) (w' (ix2 a ⟨(gix (ix2 a l)).toNat % 128, Nat.mod_lt _ (by decide)⟩)) := by
    pointwise [lane8]
  rw [e, sel_low]
  simp only [g]

/-- Two codes in a byte, bit by bit. -/
theorem byte_bit (a b : BitVec 32) (q : Nat) (hq : q < 8) :
    (Spec.byte a b).getLsbD q = if q < 4 then a.getLsbD q else b.getLsbD (q - 4) := by
  have e2 : ∀ w : BitVec 32, IntOp.shli ArithUnit.host w 4#32 = w <<< 4 := fun _ => rfl
  have m : ∀ p : Fin 8, (15#32).getLsbD p.val = decide (p.val < 4) := by decide
  rw [Spec.byte, BitVec.getLsbD_setWidth, e2, IntOp.ori, IntOp.andi, IntOp.andi, BitVec.getLsbD_or, BitVec.getLsbD_shiftLeft,
    BitVec.getLsbD_and, BitVec.getLsbD_and, m ⟨q, hq⟩]
  by_cases h : q < 4
  · simp [h, hq]
  · have := m ⟨q - 4, by omega⟩
    simp only at this
    rw [this]
    have h4 : q - 4 < 4 := by omega
    simp [h, hq, h4]
    omega

/-- A packed byte from one pair word of its four rows. -/
theorem word_byte (x : FVec Ideal S32x128 .f32) (r : Fin 32) (l : Fin 128) (hl : l.val % 2 = 0) (A B : BitVec 32)
    (hA : cByte x (ix2 r l) = A.setWidth 8) (hB : cByte x (ix2 r ⟨l.val + 1, by omega⟩) = B.setWidth 8) (q : Nat) (hq : q < 8) :
    (word x (ix2 ⟨r.val / 4, by omega⟩ l)).getLsbD (8 * (r.val % 4) + q) = (Spec.byte A B).getLsbD q := by
  have en : nextL l = ⟨l.val + 1, by omega⟩ := Fin.ext (by show (l.val + 128 - 127) % 128 = l.val + 1; omega)
  rw [word_bit x _ l _ (by omega), byte_bit A B q hq, en,
    nib_bit x _ l (8 * (r.val % 4) + q) (by omega) r (by show r.val = 4 * (r.val / 4) + (8 * (r.val % 4) + q) / 8; omega), hA]
  have e1 : (8 * (r.val % 4) + q) % 8 = q := by omega
  rw [e1, BitVec.getLsbD_setWidth]
  by_cases h : q < 4
  · have hz : (!decide (8 * (r.val % 4) + q < 4) && (nib x (ix2 (⟨r.val / 4, by omega⟩ : Fin 8) (⟨l.val + 1, by omega⟩ : Fin 128))).getLsbD (8 * (r.val % 4) + q - 4)) = false := by
      by_cases h0 : 8 * (r.val % 4) + q < 4
      · simp [h0]
      · rw [nib_bit x _ _ (8 * (r.val % 4) + q - 4) (by omega) ⟨4 * (r.val / 4) + (8 * (r.val % 4) + q - 4) / 8, by omega⟩ rfl]
        have : ¬ (8 * (r.val % 4) + q - 4) % 8 < 4 := by omega
        simp [this]
    rw [hz]
    simp [h, hq]
  · have h0 : ¬ 8 * (r.val % 4) + q < 4 := by omega
    rw [nib_bit x _ _ (8 * (r.val % 4) + q - 4) (by omega) r (by show r.val = 4 * (r.val / 4) + (8 * (r.val % 4) + q - 4) / 8; omega), hB]
    have e2 : (8 * (r.val % 4) + q - 4) % 8 = q - 4 := by omega
    have h4 : q - 4 < 4 := by omega
    have h8 : q - 4 < 8 := by omega
    rw [e2, BitVec.getLsbD_setWidth]
    simp [h, h0, h4, h8]

/-- The byte of codes `2 k` and `2 k + 1` of a row. -/
abbrev rowByte (x : Fin 1152 → EReal) (k : Fin 576) : BitVec 8 :=
  Spec.byte (Ideal.fptosi 32 (Spec.cq x ⟨2 * k.val, by omega⟩)) (Ideal.fptosi 32 (Spec.cq x ⟨2 * k.val + 1, by omega⟩))

/-- A tile's code bytes. -/
theorem cByte_tile (v : FVec Ideal S32x1152 .bf16) (t : Fin 9) (r : Fin 32) (l : Fin 128) (k : Fin 1152) (hk : k.val = 128 * t.val + l.val) :
    cByte (tile v t) (ix2 r l) = (Ideal.fptosi 32 (Spec.cq (rowX v r) k)).setWidth 8 := by
  have e : cByte (tile v t) (ix2 r l) = Ideal.fptosi 8 (code (tile v t) (ix2 r l)) := rfl
  have ek : k = ⟨128 * t.val + l.val, by omega⟩ := Fin.ext hk
  rw [e, code_tile, ek]
  exact Spec.rc_byte _

/-- Two packed tiles, by byte. -/
theorem pack_tile (v : FVec Ideal S32x1152 .bf16) (t t' : Fin 9) (r : Fin 32) (l : Fin 128) (k : Fin 576)
    (hk : k.val = 64 * (if l.val < 64 then t.val else t'.val) + l.val % 64) :
    pack (word (tile v t)) (word (tile v t')) (ix2 r l) = rowByte (rowX v r) k := by
  apply BitVec.eq_of_getLsbD_eq
  intro q hq
  rw [pack, bytes_bit _ _ r l q hq ⟨r.val / 4, by omega⟩ rfl, pair_apply]
  by_cases h : l.val < 64
  · rw [if_pos h] at hk
    rw [if_pos h]
    exact word_byte (tile v t) r ⟨2 * (l.val % 64), by omega⟩ (by show 2 * (l.val % 64) % 2 = 0; omega) _ _
      (cByte_tile v t r _ _ (by show 2 * k.val = 128 * t.val + 2 * (l.val % 64); omega))
      (cByte_tile v t r _ _ (by show 2 * k.val + 1 = 128 * t.val + (2 * (l.val % 64) + 1); omega)) q hq
  · rw [if_neg h] at hk
    rw [if_neg h]
    exact word_byte (tile v t') r ⟨2 * (l.val % 64), by omega⟩ (by show 2 * (l.val % 64) % 2 = 0; omega) _ _
      (cByte_tile v t' r _ _ (by show 2 * k.val = 128 * t'.val + 2 * (l.val % 64); omega))
      (cByte_tile v t' r _ _ (by show 2 * k.val + 1 = 128 * t'.val + (2 * (l.val % 64) + 1); omega)) q hq

/-- The last tile, by byte. -/
theorem packLast_tile (v : FVec Ideal S32x1152 .bf16) (r : Fin 32) (l : Fin 64) (k : Fin 576) (hk : k.val = 512 + l.val) :
    packLast (word (tile v 8)) (ix2 r l) = rowByte (rowX v r) k := by
  have e : packLast (word (tile v 8)) (ix2 r l) = pack (word (tile v 8)) (word (tile v 8)) (ix2 r ⟨l.val, by omega⟩) := by
    pointwise [packLast]
  rw [e]
  exact pack_tile v 8 8 r _ k (by show k.val = 64 * (if l.val < 64 then 8 else 8) + l.val % 64; rw [ite_self]; omega)

end Cert.KernelIdeal.Val

end
-- ==== Proof.Val.Wts.lean ====
/- The kernel's weights on the extended reals: a nibble of the packed byte, less the zero point, times the scale. -/
module

public import proofs.«01_k».proof.Proof.Val.Codes
public import proofs.«01_k».proof.Proof.Val.Weights

@[expose] public section

set_option maxRecDepth 16384

noncomputable section

namespace Cert.KernelIdeal.Val

open Cert.KernelIdeal Cert.KernelIdeal.Gen Idealize.ShloMosaic

/-- The gather's byte lane, from the first half of the bytes. -/
theorem gix16_0 (a : Fin 16) (l : Fin 128) : (gix16 0#32 (ix2 a l)).toNat % 128 = l.val / 2 := by
  pointwise [gix16, pre16, half16, lane16]
  revert l
  decide +kernel

/-- The gather's byte lane, from the second half of the bytes. -/
theorem gix16_64 (a : Fin 16) (l : Fin 128) : (gix16 64#32 (ix2 a l)).toNat % 128 = 64 + l.val / 2 := by
  pointwise [gix16, pre16, half16, lane16]
  revert l
  decide +kernel

/-- The shift of a weight lane is four on the odd lanes. -/
theorem shift_lane : ∀ l : Fin 128, IntOp.muli (IntOp.andi (BitVec.ofNat 32 l.val) 1#32) 4#32 = if l.val % 2 = 0 then 0#32 else 4#32 := by
  decide +kernel

/-- The weight code's bits. -/
theorem wcode_bit (p : IVec S64x128 8) (first : BitVec 32) (r : Fin 64) (l col : Fin 128)
    (hc : ∀ a : Fin 16, (gix16 first (ix2 a l)).toNat % 128 = col.val) (q : Nat) (hq : q < 8) :
    (wcode p first (ix2 r l)).getLsbD q = ((p (ix2 r col)).getLsbD (q + 4 * (l.val % 2)) && decide (q < 4)) := by
  have e : ∀ a : Fin 16, andi (shrui (dynamicGather 1 (bitcast S16x128 32 p bitcasts_S64x128_w8_S16x128_w32) (gix16 first))
      (muli (andi lane16 (broadcast S16x128 1#32)) (broadcast S16x128 4#32))) (broadcast S16x128 252645135#32) (ix2 a l)
      = IntOp.andi (IntOp.shrui ArithUnit.vector (bitcast S16x128 32 p bitcasts_S64x128_w8_S16x128_w32 (ix2 a ⟨(gix16 first (ix2 a l)).toNat % 128, Nat.mod_lt _ (by decide)⟩))
        (IntOp.muli (IntOp.andi (BitVec.ofNat 32 l.val) 1#32) 4#32)) 252645135#32 := by
    intro a
    pointwise [lane16]
  have s0 : ∀ w : BitVec 32, IntOp.shrui ArithUnit.vector w 0#32 = w >>> 0 := fun _ => rfl
  have s4 : ∀ w : BitVec 32, IntOp.shrui ArithUnit.vector w 4#32 = w >>> 4 := fun _ => rfl
  have sh : ∀ w : BitVec 32, IntOp.shrui ArithUnit.vector w (IntOp.muli (IntOp.andi (BitVec.ofNat 32 l.val) 1#32) 4#32) = w >>> (4 * (l.val % 2)) := by
    intro w
    rw [shift_lane]
    by_cases h : l.val % 2 = 0
    · rw [if_pos h, s0, h]
    · have h1 : l.val % 2 = 1 := by omega
      rw [if_neg h, s4, h1]
  rw [wcode, bytes_bit _ _ r l q hq ⟨r.val / 4, by omega⟩ rfl, e, sh, IntOp.andi, BitVec.getLsbD_and, BitVec.getLsbD_ushiftRight,
    mask_bit ⟨8 * (r.val % 4) + q, by omega⟩]
  simp only [hc]
  have e1 : (8 * (r.val % 4) + q) % 8 = q := by omega
  rw [e1]
  by_cases h : q < 4
  · simp only [h, decide_true, Bool.and_true]
    refine (bitcast_8_32_getLsbD_ix2 p bitcasts_S64x128_w8_S16x128_w32 ⟨r.val / 4, by omega⟩ col (4 * (l.val % 2) + (8 * (r.val % 4) + q)) (by omega) r
      (by show r.val = 4 * (r.val / 4) + (4 * (l.val % 2) + (8 * (r.val % 4) + q)) / 8; omega)).trans ?_
    congr 1
    omega
  · simp [h]

/-- A nibble's low byte is the byte masked, or shifted. -/
theorem nibble_low (w : BitVec 8) (c : Nat) : (Spec.nibble w c).setWidth 8 = if c % 2 < 1 then w &&& 15#8 else w >>> 4 := by
  unfold Spec.nibble
  have h1 : ∀ f : Fin 256, (IntOp.andi (BitVec.setWidth 32 (BitVec.ofFin (w := 8) f)) 15#32).setWidth 8 = BitVec.ofFin (w := 8) f &&& 15#8 := by decide +kernel
  have h2 : ∀ f : Fin 256, (IntOp.shrsi ArithUnit.host (BitVec.setWidth 32 (BitVec.ofFin (w := 8) f)) 4#32).setWidth 8 = BitVec.ofFin (w := 8) f >>> 4 := by decide +kernel
  obtain ⟨f⟩ := w
  split
  · exact h1 f
  · exact h2 f

/-- A nibble is its low byte, as a signed number. -/
theorem nibble_toInt (w : BitVec 8) (c : Nat) : ((Spec.nibble w c).setWidth 8).toInt = (Spec.nibble w c).toInt := by
  unfold Spec.nibble
  have h1 : ∀ f : Fin 256, ((IntOp.andi (BitVec.setWidth 32 (BitVec.ofFin (w := 8) f)) 15#32).setWidth 8).toInt = (IntOp.andi (BitVec.setWidth 32 (BitVec.ofFin (w := 8) f)) 15#32).toInt := by decide +kernel
  have h2 : ∀ f : Fin 256, ((IntOp.shrsi ArithUnit.host (BitVec.setWidth 32 (BitVec.ofFin (w := 8) f)) 4#32).setWidth 8).toInt = (IntOp.shrsi ArithUnit.host (BitVec.setWidth 32 (BitVec.ofFin (w := 8) f)) 4#32).toInt := by decide +kernel
  obtain ⟨f⟩ := w
  split
  · exact h1 f
  · exact h2 f

/-- The weight code is the byte's nibble. -/
theorem wcode_nibble (p : IVec S64x128 8) (first : BitVec 32) (r : Fin 64) (l col : Fin 128)
    (hc : ∀ a : Fin 16, (gix16 first (ix2 a l)).toNat % 128 = col.val) (c : Nat) (hcl : c % 2 = l.val % 2) :
    wcode p first (ix2 r l) = (Spec.nibble (p (ix2 r col)) c).setWidth 8 := by
  apply BitVec.eq_of_getLsbD_eq
  intro q hq
  have m : ∀ p : Fin 8, (15#8).getLsbD p.val = decide (p.val < 4) := by decide
  rw [wcode_bit p first r l col hc q hq, nibble_low, hcl]
  by_cases h : l.val % 2 < 1
  · have h0 : l.val % 2 = 0 := by omega
    rw [if_pos h, BitVec.getLsbD_and, m ⟨q, hq⟩, h0]
    rfl
  · have h0 : l.val % 2 = 1 := by omega
    rw [if_neg h, BitVec.getLsbD_ushiftRight, h0]
    by_cases h4 : q < 4
    · simp [h4, Nat.add_comm]
    · simp only [h4, decide_false, Bool.and_false]
      exact (BitVec.getLsbD_of_ge _ _ (by omega)).symm

/-- A dequantised weight of a group, pointwise. -/
theorem wdeq_apply (p : IVec S64x128 8) (first : BitVec 32) (z : FVec Ideal S1x128 .bf16) (s : FVec Ideal S1x128 .f32) (r : Fin 64) (l col : Fin 128)
    (hc : ∀ a : Fin 16, (gix16 first (ix2 a l)).toNat % 128 = col.val) (c : Nat) (hcl : c % 2 = l.val % 2) :
    wdeq (F := Ideal) p first z s (ix2 r l) = Spec.wt (p (ix2 r col)) c (z (ix2 0 l)) (s (ix2 0 l)) := by
  have e : wdeq (F := Ideal) p first z s (ix2 r l)
      = ((((wcode p first (ix2 r l)).toInt : ℝ) : EReal) - z (ix2 0 l)) * s (ix2 0 l) := by
    pointwise [wdeq]
    rfl
  rw [e, wcode_nibble p first r l col hc c hcl, nibble_toInt]
  rfl

end Cert.KernelIdeal.Val

end
-- ==== Proof.Val.Block.lean ====
/- What one grid point leaves in its three result windows, on the extended reals. -/
module

public import proofs.«01_k».proof.Proof.Val.Wts
public import proofs.«01_k».proof.Proof.Val.Pieces

@[expose] public section

set_option maxRecDepth 16384

noncomputable section

namespace Cert.KernelIdeal.Val

open Cert.KernelIdeal Cert.KernelIdeal.Gen Idealize.ShloMosaic

/-- A row of a window of activations. -/
abbrev winX (x : FVec Ideal S256x1152 .bf16) (r : Fin 256) : Fin 1152 → EReal := fun k => x (ix2 r k)

/-- A row of a window is a row of one of its blocks. -/
theorem row_xp (x : FVec Ideal S256x1152 .bf16) (r : Fin 256) :
    rowX (xp (F := Ideal) x (blkOf r)) (rowOf r) = winX x r := by
  funext k
  have e : ∀ (p : Fin 8) (q : Fin 32), xp (F := Ideal) x p (ix2 q k) = x (ix2 ⟨32 * p.val + q.val, by omega⟩ k) := by
    intro p q
    pointwise [xp]
  refine (e _ _).trans (congrArg (fun q => x (ix2 q k)) (Fin.ext ?_))
  show 32 * (r.val / 32) + r.val % 32 = r.val
  omega

/-- The scales of a window, pointwise. -/
theorem sAll_apply (x : FVec Ideal S256x1152 .bf16) (r : Fin 256) (g : Fin 18) :
    sAll (xp (F := Ideal) x) (ix2 r g) = Spec.gs (Spec.amx (winX x r) g) := by
  show scales (xp (F := Ideal) x (blkOf r)) (ix2 (rowOf r) g) = _
  rw [scales_apply, row_xp]

/-- The packed codes of a window, pointwise. -/
theorem cAll_apply (x : FVec Ideal S256x1152 .bf16) (r : Fin 256) (k : Fin 576) :
    cAll (xp (F := Ideal) x) (ix2 r k) = rowByte (winX x r) k := by
  rw [← row_xp]
  by_cases h : k.val < 512
  · refine (dif_pos h).trans (pack_tile _ _ _ _ _ k ?_)
    show k.val = 64 * (if k.val % 128 < 64 then 2 * (k.val / 128) else 2 * (k.val / 128) + 1) + k.val % 128 % 64
    split <;> omega
  · refine (dif_neg h).trans (packLast_tile _ _ _ k ?_)
    show k.val = 512 + (k.val - 512)
    omega

/-- The dequantised activations of a window, pointwise. -/
theorem aAll_low (x : FVec Ideal S256x1152 .bf16) (l : FVec Ideal S256x64 .bf16) (r : Fin 256) (k : Fin 1152) :
    aAll (F := Ideal) (xp (F := Ideal) x) l (ix2 r ⟨k.val, by omega⟩) = Spec.dq (winX x r) k := by
  rw [← row_xp]
  refine (dif_pos k.isLt).trans ((deqS_tile _ _ _ _).trans (congrArg _ (Fin.ext ?_)))
  show 128 * (k.val / 128) + k.val % 128 = k.val
  omega

/-- The low-rank activations of a window, pointwise. -/
theorem aAll_high (x : FVec Ideal S256x1152 .bf16) (l : FVec Ideal S256x64 .bf16) (r : Fin 256) (j : Fin 64) :
    aAll (F := Ideal) (xp (F := Ideal) x) l (ix2 r ⟨1152 + j.val, by omega⟩) = l (ix2 r j) := by
  refine (dif_neg (by show ¬ 1152 + j.val < 1152; omega)).trans (congrArg (fun q => l (ix2 r q)) (Fin.ext ?_))
  show 1152 + j.val - 1152 = j.val
  omega

/-- The low-rank activations are a plain product. -/
theorem pay2_apply (x : FVec Ideal S256x1152 .bf16) (l : FVec Ideal S1152x64 .bf16) (r : Fin 256) (j : Fin 64) :
    k0_pay2 (F := Ideal) x l (ix2 r j) = ∑ k : Fin 1152, x (ix2 r k) * l (ix2 k j) := by
  pointwise [k0_pay2]

/-- The product, pointwise. -/
theorem pay3_apply (a : FVec Ideal S256x1216 .bf16) (w : FVec Ideal S1216x14464 .bf16) (r : Fin 256) (c : Fin 14464) :
    k0_pay3 (F := Ideal) a w (ix2 r c) = ∑ k : Fin 1216, a (ix2 r k) * w (ix2 k c) := by
  pointwise [k0_pay3]

/-- The product of the weights, cut after the first 1152 rows. -/
theorem sum_cut (f : Fin 1216 → EReal) :
    ∑ k, f k = (∑ k : Fin 1152, f ⟨k.val, by omega⟩) + ∑ j : Fin 64, f ⟨1152 + j.val, by omega⟩ :=
  Fin.sum_univ_add (a := 1152) (b := 64) f

/-- The packed byte behind a weight column. -/
theorem wpk_apply (x1 : IVec S1152x7232 8) (g : Fin 18) (t : Fin 113) (r : Fin 64) (l : Fin 128) (col : Fin 128)
    (hcol : col.val = 64 * (t.val % 2) + l.val / 2) :
    wpk (F := Ideal) x1 g t (ix2 r col) = x1 (ix2 ⟨64 * g.val + r.val, by omega⟩ ⟨(128 * t.val + l.val) / 2, by omega⟩) := by
  unfold wpk
  split
  · rename_i h
    have e : View.ld (Val := Elt Ideal) (e' := .i8) x1 (Rect.unit (s := S1152x7232) ![64 * g.val, 128 * (⟨t.val / 2, by omega⟩ : Fin 56).val] S64x128.size (inbPt g ⟨t.val / 2, by omega⟩)) (ix2 r col)
        = x1 (ix2 ⟨64 * g.val + r.val, by omega⟩ ⟨128 * (t.val / 2) + col.val, by omega⟩) := by
      pointwise
    refine e.trans (congrArg (fun q => x1 (ix2 ⟨64 * g.val + r.val, by omega⟩ q)) (Fin.ext ?_))
    show 128 * (t.val / 2) + col.val = (128 * t.val + l.val) / 2
    omega
  · rename_i h
    have hc : col.val < 64 := by omega
    generalize hb : View.ld (Val := Elt Ideal) (e' := .i8) x1 (Rect.unit (s := S1152x7232) ![64 * g.val, 7168] S64x64.size (inbPl g)) = b
    have e : concatenate S64x128 1 [⟨S64x64, b⟩, ⟨S64x64, b⟩] concatenates_S64x64_S64x64_S64x128_d1 (ix2 r col) = b (ix2 r ⟨col.val, hc⟩) := by
      pointwise
      rw [dif_pos hc]
    rw [e, ← hb]
    have e2 : View.ld (Val := Elt Ideal) (e' := .i8) x1 (Rect.unit (s := S1152x7232) ![64 * g.val, 7168] S64x64.size (inbPl g)) (ix2 r ⟨col.val, hc⟩)
        = x1 (ix2 ⟨64 * g.val + r.val, by omega⟩ ⟨7168 + col.val, by omega⟩) := by
      pointwise
    refine e2.trans (congrArg (fun q => x1 (ix2 ⟨64 * g.val + r.val, by omega⟩ q)) (Fin.ext ?_))
    show 7168 + col.val = (128 * t.val + l.val) / 2
    omega

/-- A tile of the weights, pointwise. -/
theorem wTile_apply (x1 : IVec S1152x7232 8) (x2 : FVec Ideal S18x14464 .f32) (x3 : FVec Ideal S18x14464 .bf16) (g : Fin 18) (t : Fin 113) (r : Fin 64) (l : Fin 128) :
    wTile (F := Ideal) x1 x2 x3 g t (ix2 r l)
      = Spec.wt (x1 (ix2 ⟨64 * g.val + r.val, by omega⟩ ⟨(128 * t.val + l.val) / 2, by omega⟩)) (128 * t.val + l.val)
        (x3 (ix2 g ⟨128 * t.val + l.val, by omega⟩)) (x2 (ix2 g ⟨128 * t.val + l.val, by omega⟩)) := by
  have hl : 64 * (t.val % 2) + l.val / 2 < 128 := by omega
  unfold wTile
  rw [wdeq_apply _ _ _ _ r l ⟨64 * (t.val % 2) + l.val / 2, hl⟩ (fun a => by
      unfold wfirst
      split
      · rw [gix16_0]; show l.val / 2 = 64 * (t.val % 2) + l.val / 2; omega
      · rw [gix16_64]; show 64 + l.val / 2 = 64 * (t.val % 2) + l.val / 2; omega)
    (128 * t.val + l.val) (by omega), wpk_apply x1 g t r l _ rfl]
  congr 1
  · pointwise
  · pointwise

/-- The dequantised rows of the weights, pointwise. -/
theorem wAll_low (x1 : IVec S1152x7232 8) (x2 : FVec Ideal S18x14464 .f32) (x3 : FVec Ideal S18x14464 .bf16) (x5 : FVec Ideal S64x14464 .bf16) (k : Fin 1152) (c : Fin 14464) :
    wAll (F := Ideal) x1 x2 x3 x5 (ix2 ⟨k.val, by omega⟩ c)
      = Spec.wt (x1 (ix2 k ⟨c.val / 2, by omega⟩)) c.val (x3 (ix2 ⟨k.val / 64, by omega⟩ c)) (x2 (ix2 ⟨k.val / 64, by omega⟩ c)) := by
  refine (dif_pos k.isLt).trans ((wTile_apply x1 x2 x3 _ _ _ _).trans ?_)
  have e1 : 128 * (c.val / 128) + c.val % 128 = c.val := by omega
  have e2 : (⟨64 * (k.val / 64) + k.val % 64, by omega⟩ : Fin 1152) = k := Fin.ext (by show 64 * (k.val / 64) + k.val % 64 = k.val; omega)
  have e3 : (⟨128 * (c.val / 128) + c.val % 128, by omega⟩ : Fin 14464) = c := Fin.ext e1
  have e4 : (⟨(128 * (c.val / 128) + c.val % 128) / 2, by omega⟩ : Fin 7232) = ⟨c.val / 2, by omega⟩ := Fin.ext (by show (128 * (c.val / 128) + c.val % 128) / 2 = c.val / 2; omega)
  show Spec.wt (x1 (ix2 (⟨64 * (k.val / 64) + k.val % 64, by omega⟩ : Fin 1152) (⟨(128 * (c.val / 128) + c.val % 128) / 2, by omega⟩ : Fin 7232))) (128 * (c.val / 128) + c.val % 128)
    (x3 (ix2 ⟨k.val / 64, by omega⟩ (⟨128 * (c.val / 128) + c.val % 128, by omega⟩ : Fin 14464))) (x2 (ix2 ⟨k.val / 64, by omega⟩ (⟨128 * (c.val / 128) + c.val % 128, by omega⟩ : Fin 14464))) = _
  rw [e2, e3, e4, e1]

/-- The low-rank rows of the weights, pointwise. -/
theorem wAll_high (x1 : IVec S1152x7232 8) (x2 : FVec Ideal S18x14464 .f32) (x3 : FVec Ideal S18x14464 .bf16) (x5 : FVec Ideal S64x14464 .bf16) (j : Fin 64) (c : Fin 14464) :
    wAll (F := Ideal) x1 x2 x3 x5 (ix2 ⟨1152 + j.val, by omega⟩ c) = x5 (ix2 j c) := by
  refine (dif_neg (by show ¬ 1152 + j.val < 1152; omega)).trans ?_
  have e : k0_pay262 (F := Ideal) x5 (ix2 j c) = x5 (ix2 j c) := by pointwise [k0_pay262]
  refine Eq.trans (congrArg (fun q => k0_pay262 (F := Ideal) x5 (ix2 q c)) (Fin.ext ?_)) e
  show 1152 + j.val - 1152 = j.val
  omega

/-- The product of a window, pointwise. -/
theorem out_apply (x : FVec Ideal S256x1152 .bf16) (x1 : IVec S1152x7232 8) (x2 : FVec Ideal S18x14464 .f32) (x3 : FVec Ideal S18x14464 .bf16) (x4 : FVec Ideal S1152x64 .bf16)
    (x5 : FVec Ideal S64x14464 .bf16) (r : Fin 256) (c : Fin 14464) :
    k0_pay3 (F := Ideal) (aAll (F := Ideal) (xp (F := Ideal) x) (k0_pay2 (F := Ideal) x x4)) (wAll (F := Ideal) x1 x2 x3 x5) (ix2 r c)
      = (∑ k : Fin 1152, Spec.dq (winX x r) k * Spec.wt (x1 (ix2 k ⟨c.val / 2, by omega⟩)) c.val (x3 (ix2 ⟨k.val / 64, by omega⟩ c)) (x2 (ix2 ⟨k.val / 64, by omega⟩ c)))
        + ∑ j : Fin 64, (∑ k : Fin 1152, x (ix2 r k) * x4 (ix2 k j)) * x5 (ix2 j c) := by
  rw [pay3_apply, sum_cut]
  simp only [aAll_low, aAll_high, wAll_low, wAll_high, pay2_apply]

end Cert.KernelIdeal.Val

end
-- ==== Proof.Val.Result.lean ====
/- The three result arrays after the run, and what the closing reshapes make of them. -/
module

public import proofs.«01_k».proof.Proof.Val.Launch
public import proofs.«01_k».proof.Proof.Val.Block
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The row windows move down one block of rows a point. -/
theorem idx0 : ∀ t : Fin cfg0.N, win0_0.index t = ![t.val, 0] := (by decide +kernel : ∀ t : Fin grid0.N, _)
/-- Result window 6 moves down one block of rows a point. -/
theorem idx6 : ∀ t : Fin cfg0.N, win0_6.index t = ![t.val, 0] := (by decide +kernel : ∀ t : Fin grid0.N, _)
/-- Result window 7 moves down one block of rows a point. -/
theorem idx7 : ∀ t : Fin cfg0.N, win0_7.index t = ![t.val, 0] := (by decide +kernel : ∀ t : Fin grid0.N, _)
/-- Result window 8 moves down one block of rows a point. -/
theorem idx8 : ∀ t : Fin cfg0.N, win0_8.index t = ![t.val, 0] := (by decide +kernel : ∀ t : Fin grid0.N, _)

/-- The grid point whose block holds a row. -/
def ptOf (r : Fin 12288) : Fin cfg0.N := ⟨r.val / 256, by rw [show cfg0.N = 48 from N_0]; omega⟩
/-- A row's place in its block. -/
def inOf (r : Fin 12288) : Fin 256 := ⟨r.val % 256, by omega⟩

/-- The product array. -/
def yArr (c : Dev nD) : Vec F S12288x14464 .bf16 := fun y => yF m c (ptOf (y 0)) (ix2 (inOf (y 0)) (y 1))
/-- The packed-code array. -/
def cArr (c : Dev nD) : Vec F S12288x576 .i8 := fun y => cAll (xp (iblk m c 0 (ptOf (y 0)))) (ix2 (inOf (y 0)) (y 1))
/-- The scale array. -/
def sArr (c : Dev nD) : Vec F S12288x18 .f32 := fun y => sAll (xp (iblk m c 0 (ptOf (y 0)))) (ix2 (inOf (y 0)) (y 1))

/-- A function of point and place, read at a row's point and place. -/
theorem split_row {α : Type} {n : ℕ} (f : Fin cfg0.N → (⟨2, ![256, n]⟩ : Shape).Idx → α) (t : Fin cfg0.N)
    (y : (⟨2, ![256, n]⟩ : Shape).Idx) (z : (⟨2, ![12288, n]⟩ : Shape).Idx)
    (h0 : (z 0).val = t.val * 256 + (y 0).val) (h1 : (z 1).val = (y 1).val) :
    f t y = f (ptOf (z 0)) (ix2 (inOf (z 0)) (z 1)) := by
  have hy : (y 0).val < 256 := (y 0).isLt
  have e1 : ptOf (z 0) = t := Fin.ext (by show (z 0).val / 256 = t.val; omega)
  have e2 : ix2 (inOf (z 0)) (z 1) = y := by
    funext a; revert a
    exact Fin.forall_fin_two.mpr ⟨Fin.ext (by show (z 0).val % 256 = (y 0).val; omega), Fin.ext h1⟩
  exact congrArg₂ f e1.symm e2.symm

/-- The product array after the run. -/
theorem final6 (c : Dev nD) : (dats m 0 c).arrAt 6 (cfgs 0).N = yArr m c := by
  refine (dats m 0 c).arrAt_eq_of_covers 6 _ (by decide +kernel) fun t _ y => ?_
  blk_simp
  rw [after0_6]
  exact split_row (fun t y => yF m c t y) t y _ (by blk_simp [idx6]) (by blk_simp [idx6])

/-- The packed-code array after the run. -/
theorem final7 (c : Dev nD) : (dats m 0 c).arrAt 7 (cfgs 0).N = cArr m c := by
  refine (dats m 0 c).arrAt_eq_of_covers 7 _ (by decide +kernel) fun t _ y => ?_
  blk_simp
  rw [after0_7]
  exact split_row (fun t y => cAll (xp (iblk m c 0 t)) y) t y _ (by blk_simp [idx7]) (by blk_simp [idx7])

/-- The scale array after the run. -/
theorem final8 (c : Dev nD) : (dats m 0 c).arrAt 8 (cfgs 0).N = sArr m c := by
  refine (dats m 0 c).arrAt_eq_of_covers 8 _ (by decide +kernel) fun t _ y => ?_
  blk_simp
  rw [after0_8]
  exact split_row (fun t y => sAll (xp (iblk m c 0 t)) y) t y _ (by blk_simp [idx8]) (by blk_simp [idx8])

/-- What the closing reshape of array 1 of 3 returns. -/
theorem tail2 (c : Dev nD) : Pipeline.afterTail₀ cfgs (dats m) 0 (V0 m) [hostOps1] c main_v2
    = shapeCast S4x3072x14464 (yArr m c) shapeCasts_S12288x14464_S4x3072x14464 := by
  rw [← final6 m c]
  unfold Pipeline.afterTail₀ hostOps1
  simp only [List.flatten_cons, List.flatten_nil, List.append_nil]
  after_results_simp
  exact congrArg (fun a => shapeCast S4x3072x14464 a shapeCasts_S12288x14464_S4x3072x14464)
    (Pipeline.withArrays_arr spec0 (by decide) c (V0 m c) (fun w => (dats m 0 c).arrAt w (cfgs 0).N) 6)

/-- What the closing reshape of array 2 of 3 returns. -/
theorem tail3 (c : Dev nD) : Pipeline.afterTail₀ cfgs (dats m) 0 (V0 m) [hostOps1] c main_v3
    = shapeCast S4x3072x576 (cArr m c) shapeCasts_S12288x576_S4x3072x576 := by
  rw [← final7 m c]
  unfold Pipeline.afterTail₀ hostOps1
  simp only [List.flatten_cons, List.flatten_nil, List.append_nil]
  after_results_simp
  exact congrArg (fun a => shapeCast S4x3072x576 a shapeCasts_S12288x576_S4x3072x576)
    (Pipeline.withArrays_arr spec0 (by decide) c (V0 m c) (fun w => (dats m 0 c).arrAt w (cfgs 0).N) 7)

/-- What the closing reshape of array 3 of 3 returns. -/
theorem tail4 (c : Dev nD) : Pipeline.afterTail₀ cfgs (dats m) 0 (V0 m) [hostOps1] c main_v4
    = shapeCast S4x3072x18 (sArr m c) shapeCasts_S12288x18_S4x3072x18 := by
  rw [← final8 m c]
  unfold Pipeline.afterTail₀ hostOps1
  simp only [List.flatten_cons, List.flatten_nil, List.append_nil]
  after_results_simp
  exact congrArg (fun a => shapeCast S4x3072x18 a shapeCasts_S12288x18_S4x3072x18)
    (Pipeline.withArrays_arr spec0 (by decide) c (V0 m c) (fun w => (dats m 0 c).arrAt w (cfgs 0).N) 8)

end Cert.KernelIdeal.Val

end
-- ==== Proof.Val.Ref.lean ====
module

public import proofs.«01_k».proof.Proof.Val.Spec
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.ReferenceIdeal.Val

open Cert.ReferenceIdeal Cert.ReferenceIdeal.Gen Idealize.ShloMosaic

variable {F : FTy → Type} [FloatOps F]

/-- The reference's activations, by group. -/
def rGrp (x0 : FVec F S4x3072x1152 .bf16) : FVec F S4x3072x18x64 .f32 :=
  (shapeCast S4x3072x18x64 (extf .f32 x0 bitsLt_bf16_f32) shapeCasts_S4x3072x1152_S4x3072x18x64)

/-- The reference's scales, of the groups' largest absolute values. -/
def rGs (a : FVec F S4x3072x18 .f32) : FVec F S4x3072x18 .f32 :=
  select (cmpf .ogt a (broadcastInDim S4x3072x18 ![] bcast_S_S4x3072x18 (constant S_ .f32 0x00000000#32))) (Host.divf a (broadcastInDim S4x3072x18 ![] bcast_S_S4x3072x18 (constant S_ .f32 0x40E00000#32))) (broadcastInDim S4x3072x18 ![] bcast_S_S4x3072x18 (id (constant S_ .f32 0x3F800000#32)))

/-- The reference's largest absolute value of each group. -/
def rMax (y : FVec F S4x3072x18x64 .f32) : FVec F S4x3072x18 .f32 :=
  (Host.reduce FloatOps.maximumf (Host.absf y) (constant S_ .f32 0xFF800000#32) reducesTo_S4x3072x18x64_S4x3072x18_d3 h_S_)

/-- The reference's scales. -/
def rScale (x0 : FVec F S4x3072x1152 .bf16) : FVec F S4x3072x18 .f32 :=
  rGs (rMax (rGrp x0))

/-- The reference's codes, as 32-bit integers, of the grouped activations and the scales. -/
def rQ (y : FVec F S4x3072x18x64 .f32) (sc : FVec F S4x3072x18 .f32) : IVec S4x3072x18x64 32 :=
  (fptosi 32 (minimumf (broadcastInDim S4x3072x18x64 ![] bcast_S_S4x3072x18x64 (id (constant S_ .f32 0x40E00000#32))) (maximumf (broadcastInDim S4x3072x18x64 ![] bcast_S_S4x3072x18x64 (id (constant S_ .f32 0xC1000000#32))) (Host.roundeven (Host.divf y (broadcastInDim S4x3072x18x64 ![0, 1, 2, 3] bcast_S4x3072x18x1_S4x3072x18x64_0_1_2_3 (broadcastInDim S4x3072x18x1 ![0, 1, 2] bcast_S4x3072x18_S4x3072x18x1_0_1_2 sc)))))))

/-- The reference's codes, as 32-bit integers, by group. -/
def rCode (x0 : FVec F S4x3072x1152 .bf16) : IVec S4x3072x18x64 32 :=
  rQ (rGrp x0) (rScale x0)

/-- The reference's dequantised activations, of the codes and the scales. -/
def rDq (q : IVec S4x3072x18x64 32) (sc : FVec F S4x3072x18 .f32) : FVec F S4x3072x1152 .bf16 :=
  (shapeCast _ (mulf (shapeCast _ (sitofp .bf16 (shapeCast _ q shapeCasts_S4x3072x18x64_S4x3072x1152)) shapeCasts_S4x3072x1152_S4x3072x18x64) (broadcastInDim S4x3072x18x64 ![0, 1, 2, 3] bcast_S4x3072x18x1_S4x3072x18x64_0_1_2_3 (broadcastInDim S4x3072x18x1 ![0, 1, 2] bcast_S4x3072x18_S4x3072x18x1_0_1_2 (truncf .bf16 sc bitsLt_bf16_f32)))) shapeCasts_S4x3072x18x64_S4x3072x1152)

/-- The reference's packed codes. -/
def rByte (x0 : FVec F S4x3072x1152 .bf16) : IVec S4x3072x576 8 :=
  trunci 8 (ori (andi (shapeCast _ (extractStridedSlice S4x3072x576x1 ![0, 0, 0, 0] (shapeCast _ (shapeCast _ (rCode x0) shapeCasts_S4x3072x18x64_S4x3072x1152) shapeCasts_S4x3072x1152_S4x3072x576x2) slices_S4x3072x576x2_S4x3072x576x1_0_0_0_0) shapeCasts_S4x3072x576x1_S4x3072x576) (broadcastInDim S4x3072x576 ![] bcast_S_S4x3072x576 (constantI S_ 32 15#32))) (Host.shli (andi (shapeCast _ (extractStridedSlice S4x3072x576x1 ![0, 0, 0, 1] (shapeCast _ (shapeCast _ (rCode x0) shapeCasts_S4x3072x18x64_S4x3072x1152) shapeCasts_S4x3072x1152_S4x3072x576x2) slices_S4x3072x576x2_S4x3072x576x1_0_0_0_1) shapeCasts_S4x3072x576x1_S4x3072x576) (broadcastInDim S4x3072x576 ![] bcast_S_S4x3072x576 (constantI S_ 32 15#32))) (broadcastInDim S4x3072x576 ![] bcast_S_S4x3072x576 (constantI S_ 32 4#32)))) natLt_8_32

/-- The reference's dequantised activations. -/
def rAct (x0 : FVec F S4x3072x1152 .bf16) : FVec F S4x3072x1152 .bf16 :=
  rDq (rCode x0) (rScale x0)

/-- The reference's low-rank activations. -/
def rLow (x0 : FVec F S4x3072x1152 .bf16) (x4 : FVec F S1152x64 .bf16) : FVec F S4x3072x64 .bf16 :=
  (truncf .bf16 (Host.dotGeneral dot_S4x3072x1152_S1152x64_S4x3072x64_2_0_01_1_n_n none x0 x4) bitsLt_bf16_f32)

/-- The reference's two weight nibbles of each packed byte. -/
def rNib (x1 : IVec S1152x7232 8) : IVec S1152x7232x2 32 :=
  (concatenate S1152x7232x2 2 [⟨S1152x7232x1, (broadcastInDim S1152x7232x1 ![0, 1] bcast_S1152x7232_S1152x7232x1_0_1 (andi (extui 32 x1 natLt_8_32) (broadcastInDim S1152x7232 ![] bcast_S_S1152x7232 (constantI S_ 32 15#32))))⟩, ⟨S1152x7232x1, (broadcastInDim S1152x7232x1 ![0, 1] bcast_S1152x7232_S1152x7232x1_0_1 (Host.shrsi (extui 32 x1 natLt_8_32) (broadcastInDim S1152x7232 ![] bcast_S_S1152x7232 (constantI S_ 32 4#32))))⟩] concatenates_S1152x7232x1_S1152x7232x1_S1152x7232x2_d2)

/-- The reference's dequantised weights. -/
def rWt (x1 : IVec S1152x7232 8) (x2 : FVec F S18x14464 .f32) (x3 : FVec F S18x14464 .bf16) : FVec F S1152x14464 .bf16 :=
  (shapeCast _ (mulf (subf (shapeCast _ (sitofp .bf16 (shapeCast _ (rNib x1) shapeCasts_S1152x7232x2_S1152x14464)) shapeCasts_S1152x14464_S18x64x14464) (broadcastInDim S18x64x14464 ![0, 1, 2] bcast_S18x1x14464_S18x64x14464_0_1_2 (broadcastInDim S18x1x14464 ![0, 2] bcast_S18x14464_S18x1x14464_0_2 x3))) (broadcastInDim S18x64x14464 ![0, 1, 2] bcast_S18x1x14464_S18x64x14464_0_1_2 (broadcastInDim S18x1x14464 ![0, 2] bcast_S18x14464_S18x1x14464_0_2 (truncf .bf16 x2 bitsLt_bf16_f32)))) shapeCasts_S18x64x14464_S1152x14464)

/-- The reference's product. -/
def rOut (x0 : FVec F S4x3072x1152 .bf16) (x1 : IVec S1152x7232 8) (x2 : FVec F S18x14464 .f32) (x3 : FVec F S18x14464 .bf16) (x4 : FVec F S1152x64 .bf16) (x5 : FVec F S64x14464 .bf16) : FVec F S4x3072x14464 .bf16 :=
  truncf .bf16 (Host.dotGeneral dot_S4x3072x1216_S1216x14464_S4x3072x14464_2_0_01_1_n_n none (concatenate S4x3072x1216 2 [⟨S4x3072x1152, (rAct x0)⟩, ⟨S4x3072x64, (rLow x0 x4)⟩] concatenates_S4x3072x1152_S4x3072x64_S4x3072x1216_d2) (concatenate S1216x14464 0 [⟨S1152x14464, (rWt x1 x2 x3)⟩, ⟨S64x14464, x5⟩] concatenates_S1152x14464_S64x14464_S1216x14464_d0)) bitsLt_bf16_f32

/-- The grouped activations, pointwise. -/
theorem rGrp_apply (x : FVec Ideal S4x3072x1152 .bf16) (b : Fin 4) (s : Fin 3072) (g : Fin 18) (l : Fin 64) :
    rGrp x (ix4 b s g l) = x (ix3 b s ⟨g.val * 64 + l.val, by omega⟩) := by
  pointwise [rGrp]

/-- The scale of a group's largest absolute value, pointwise. -/
theorem rGs_apply (a : FVec Ideal S4x3072x18 .f32) (b : Fin 4) (s : Fin 3072) (g : Fin 18) :
    rGs a (ix3 b s g) = Spec.gs (a (ix3 b s g)) := by
  pointwise [rGs, id]
  rfl

/-- The largest absolute value of a group, pointwise. -/
theorem rMax_apply (y : FVec Ideal S4x3072x18x64 .f32) (b : Fin 4) (s : Fin 3072) (g : Fin 18) :
    rMax y (ix3 b s g) = Finset.univ.fold max (Ideal.ofBits .f32 0xFF800000#32) fun k : Fin 64 => max (y (ix4 b s g k)) (-(y (ix4 b s g k))) := by
  pointwise [rMax]
  rfl

/-- The codes of grouped activations, pointwise. -/
theorem rQ_apply (y : FVec Ideal S4x3072x18x64 .f32) (sc : FVec Ideal S4x3072x18 .f32) (b : Fin 4) (s : Fin 3072) (g : Fin 18) (l : Fin 64) :
    rQ y sc (ix4 b s g l) = Ideal.fptosi 32 (Spec.rc (Ideal.div (y (ix4 b s g l)) (sc (ix3 b s g)))) := by
  pointwise [rQ, id]
  rfl

/-- The product of codes and scales, pointwise. -/
theorem rDq_apply (q : IVec S4x3072x18x64 32) (sc : FVec Ideal S4x3072x18 .f32) (b : Fin 4) (s : Fin 3072) (k : Fin 1152) :
    rDq q sc (ix3 b s k) = (((q (ix4 b s ⟨k.val / 64, by omega⟩ ⟨k.val % 64, by omega⟩)).toInt : ℝ) : EReal) * sc (ix3 b s ⟨k.val / 64, by omega⟩) := by
  pointwise [rDq]
  rfl

/-- The reference's scales are the row's group scales. -/
theorem rScale_apply (x : FVec Ideal S4x3072x1152 .bf16) (b : Fin 4) (s : Fin 3072) (g : Fin 18) :
    rScale x (ix3 b s g) = Spec.gs (Spec.amx (fun k => x (ix3 b s k)) g) := by
  rw [rScale, rGs_apply, rMax_apply]
  simp only [rGrp_apply]
  rfl

/-- The reference's codes are the row's codes. -/
theorem rCode_apply (x : FVec Ideal S4x3072x1152 .bf16) (b : Fin 4) (s : Fin 3072) (g : Fin 18) (l : Fin 64) (k : Fin 1152) (h : k.val = g.val * 64 + l.val) :
    rCode x (ix4 b s g l) = Ideal.fptosi 32 (Spec.cq (fun k => x (ix3 b s k)) k) := by
  rw [rCode, rQ_apply, rGrp_apply, rScale_apply]
  have e : k = ⟨g.val * 64 + l.val, by omega⟩ := Fin.ext h
  have e' : (⟨k.val / 64, by omega⟩ : Fin 18) = g := Fin.ext (by show k.val / 64 = g.val; omega)
  unfold Spec.cq
  rw [e', e]

/-- The reference's packed byte `l` holds codes `2l` and `2l + 1`. -/
theorem rByte_apply (x : FVec Ideal S4x3072x1152 .bf16) (b : Fin 4) (s : Fin 3072) (l : Fin 576) :
    rByte x (ix3 b s l) = Spec.byte (Ideal.fptosi 32 (Spec.cq (fun k => x (ix3 b s k)) ⟨2 * l.val, by omega⟩))
      (Ideal.fptosi 32 (Spec.cq (fun k => x (ix3 b s k)) ⟨2 * l.val + 1, by omega⟩)) := by
  pointwise [rByte]
  rw [rCode_apply x b s _ _ ⟨2 * l.val, by omega⟩ (by show 2 * l.val = l.val / 32 * 64 + l.val % 32 * 2; omega),
    rCode_apply x b s _ _ ⟨2 * l.val + 1, by omega⟩ (by show 2 * l.val + 1 = l.val / 32 * 64 + (l.val % 32 * 2 + 1); omega)]
  rfl

/-- The reference's dequantised activations are the row's. -/
theorem rAct_apply (x : FVec Ideal S4x3072x1152 .bf16) (b : Fin 4) (s : Fin 3072) (k : Fin 1152) :
    rAct x (ix3 b s k) = Spec.dq (fun k => x (ix3 b s k)) k := by
  rw [rAct, rDq_apply, rCode_apply x b s _ _ k (by show k.val = k.val / 64 * 64 + k.val % 64; omega), rScale_apply]
  unfold Spec.dq
  congr 1
  exact Spec.rc_back _

/-- The reference's low-rank activations are the plain product. -/
theorem rLow_apply (x : FVec Ideal S4x3072x1152 .bf16) (b : Fin 4) (s : Fin 3072) (l : FVec Ideal S1152x64 .bf16) (j : Fin 64) :
    rLow x l (ix3 b s j) = ∑ k : Fin 1152, x (ix3 b s k) * l (ix2 k j) := by
  pointwise [rLow]

/-- The two nibbles of a weight byte. -/
theorem rNib_apply (x1 : IVec S1152x7232 8) (r : Fin 1152) (c : Fin 14464) :
    rNib x1 (ix3 r ⟨c.val / 2, by omega⟩ ⟨c.val % 2, by omega⟩) = Spec.nibble (x1 (ix2 r ⟨c.val / 2, by omega⟩)) c.val := by
  pointwise [rNib]
  unfold Spec.nibble
  split <;> rfl

/-- The reference's dequantised weights, pointwise. -/
theorem rWt_apply (x1 : IVec S1152x7232 8) (x2 : FVec Ideal S18x14464 .f32) (x3 : FVec Ideal S18x14464 .bf16) (r : Fin 1152) (c : Fin 14464) :
    rWt x1 x2 x3 (ix2 r c) = Spec.wt (x1 (ix2 r ⟨c.val / 2, by omega⟩)) c.val (x3 (ix2 ⟨r.val / 64, by omega⟩ c)) (x2 (ix2 ⟨r.val / 64, by omega⟩ c)) := by
  pointwise [rWt]
  rw [rNib_apply]
  rfl

/-- The reference's product is the sum over activations and weights plus the low-rank sum. -/
theorem rOut_apply (x0 : FVec Ideal S4x3072x1152 .bf16) (x1 : IVec S1152x7232 8) (x2 : FVec Ideal S18x14464 .f32) (x3 : FVec Ideal S18x14464 .bf16) (x4 : FVec Ideal S1152x64 .bf16) (x5 : FVec Ideal S64x14464 .bf16) (b : Fin 4) (s : Fin 3072) (c : Fin 14464) :
    rOut x0 x1 x2 x3 x4 x5 (ix3 b s c)
      = (∑ k, rAct x0 (ix3 b s k) * rWt x1 x2 x3 (ix2 k c)) + ∑ j, rLow x0 x4 (ix3 b s j) * x5 (ix2 j c) := by
  pointwise [rOut]

end Cert.ReferenceIdeal.Val
end
-- ==== Proof.Val.Equal.lean ====
/- The kernel's three results are the reference's formulas over the launched arguments. -/
module

public import proofs.«01_k».proof.Proof.Val.Result
public import proofs.«01_k».proof.Proof.Val.Ref
public import Idealize.ShloMosaic.Lib.Claim

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The weight windows and the low-rank windows never move. -/
theorem idxK : ∀ t : Fin cfg0.N, win0_1.index t = ![0, 0] ∧ win0_2.index t = ![0, 0] ∧ win0_3.index t = ![0, 0]
    ∧ win0_4.index t = ![0, 0] ∧ win0_5.index t = ![0, 0] := (by decide +kernel : ∀ t : Fin grid0.N, _)

/-- The packed weights, whole at every point. -/
theorem iblk1 (c : Dev nD) (t : Fin cfg0.N) : iblk m c 1 t = m ((c : Thread nD τ).loc main_arg1) := by
  blk_ext! [iblk, V, idxK t]
/-- The weight scales, whole at every point. -/
theorem iblk2 (c : Dev nD) (t : Fin cfg0.N) : iblk m c 2 t = m ((c : Thread nD τ).loc main_arg2) := by
  blk_ext! [iblk, V, idxK t]
/-- The weight zero points, whole at every point. -/
theorem iblk3 (c : Dev nD) (t : Fin cfg0.N) : iblk m c 3 t = m ((c : Thread nD τ).loc main_arg3) := by
  blk_ext! [iblk, V, idxK t]
/-- The first low-rank factor, whole at every point. -/
theorem iblk4 (c : Dev nD) (t : Fin cfg0.N) : iblk m c 4 t = m ((c : Thread nD τ).loc main_arg4) := by
  blk_ext! [iblk, V, idxK t]
/-- The second low-rank factor, whole at every point. -/
theorem iblk5 (c : Dev nD) (t : Fin cfg0.N) : iblk m c 5 t = m ((c : Thread nD τ).loc main_arg5) := by
  blk_ext! [iblk, V, idxK t]

/-- A row of the flattened activations is a row of the launched ones. -/
theorem reshape_row (x : FVec Ideal S4x3072x1152 .bf16) (b : Fin 4) (s : Fin 3072) (r : Fin 12288) (k : Fin 1152)
    (h : r.val = b.val * 3072 + s.val) :
    (shapeCast S12288x1152 x shapeCasts_S4x3072x1152_S12288x1152 : FVec Ideal S12288x1152 .bf16) (ix2 r k) = x (ix3 b s k) := by
  pointwise
  have hs := s.isLt
  have e1 : (⟨r.val / 3072, by omega⟩ : Fin 4) = b := Fin.ext (by show r.val / 3072 = b.val; omega)
  have e2 : (⟨r.val % 3072, by omega⟩ : Fin 3072) = s := Fin.ext (by show r.val % 3072 = s.val; omega)
  exact congrArg₂ (fun b s => x (ix3 b s k)) e1 e2

/-- What the region finds in the flattened activations. -/
theorem V_v0 (c : Dev nD) : (V m c main_v0 : FVec Ideal S12288x1152 .bf16)
    = shapeCast S12288x1152 (m ((c : Thread nD τ).loc main_arg0)) shapeCasts_S4x3072x1152_S12288x1152 := by
  show StableHlo.after [hostOps0].flatten (fun b => m (c, b)) (Proc.tc.devRef main_v0) = _
  unfold hostOps0
  simp only [List.flatten_cons, List.flatten_nil, List.append_nil]
  after_results_simp <;> rfl

/-- The activation block at a point, at a row and a column. -/
theorem iblk0 (c : Dev nD) (t : Fin cfg0.N) (p : Fin 256) (k : Fin 1152) (r : Fin 12288) (h : r.val = t.val * 256 + p.val) :
    (iblk m c 0 t : S256x1152.Idx → EReal) (ix2 p k)
      = (shapeCast S12288x1152 (m ((c : Thread nD τ).loc main_arg0)) shapeCasts_S4x3072x1152_S12288x1152 : FVec Ideal S12288x1152 .bf16) (ix2 r k) := by
  rw [← V_v0 m c]
  show V m c main_v0 (((cfg0.win 0).blk t).view.emb (ix2 p k)) = V m c main_v0 (ix2 r k)
  generalize V m c main_v0 = X
  blk_ext [idx0 t]

/-- Row `r` of the flattened batch is sequence row `s` of batch `b`. -/
def flatRow (b : Fin 4) (s : Fin 3072) : Fin 12288 := ⟨b.val * 3072 + s.val, by omega⟩

/-- The activations the kernel meets at a row: the launched ones. -/
theorem winX_row (c : Dev nD) (b : Fin 4) (s : Fin 3072) :
    winX (iblk m c 0 (ptOf (flatRow b s))) (inOf (flatRow b s))
      = fun k => (m ((c : Thread nD τ).loc main_arg0) : FVec Ideal S4x3072x1152 .bf16) (ix3 b s k) := by
  funext k
  exact (iblk0 m c _ _ k (flatRow b s) (by show (flatRow b s).val = (flatRow b s).val / 256 * 256 + (flatRow b s).val % 256; omega)).trans
    (reshape_row _ b s (flatRow b s) k rfl)

/-- The reshaped product array at batch, sequence row and column. -/
theorem cast14464 (f : Vec Ideal S12288x14464 .bf16) (b : Fin 4) (s : Fin 3072) (j : Fin 14464) :
    (shapeCast S4x3072x14464 f shapeCasts_S12288x14464_S4x3072x14464 : Vec Ideal S4x3072x14464 .bf16) (ix3 b s j) = f (ix2 (flatRow b s) j) := by
  pointwise
  rfl

/-- The reshaped packed-code array at batch, sequence row and column. -/
theorem cast576 (f : Vec Ideal S12288x576 .i8) (b : Fin 4) (s : Fin 3072) (j : Fin 576) :
    (shapeCast S4x3072x576 f shapeCasts_S12288x576_S4x3072x576 : Vec Ideal S4x3072x576 .i8) (ix3 b s j) = f (ix2 (flatRow b s) j) := by
  pointwise
  rfl

/-- The reshaped scale array at batch, sequence row and column. -/
theorem cast18 (f : Vec Ideal S12288x18 .f32) (b : Fin 4) (s : Fin 3072) (j : Fin 18) :
    (shapeCast S4x3072x18 f shapeCasts_S12288x18_S4x3072x18 : Vec Ideal S4x3072x18 .f32) (ix3 b s j) = f (ix2 (flatRow b s) j) := by
  pointwise
  rfl

/-- The scales returned are the reference's. -/
theorem scales_eq (c : Dev nD) : (shapeCast S4x3072x18 (sArr m c) shapeCasts_S12288x18_S4x3072x18 : FVec Ideal S4x3072x18 .f32)
    = Cert.ReferenceIdeal.Val.rScale (m ((c : Thread nD τ).loc main_arg0)) := by
  funext y
  rw [eq_ix3 y]
  refine (cast18 (sArr m c) (y 0) (y 1) (y 2)).trans (Eq.trans ?_ (Cert.ReferenceIdeal.Val.rScale_apply _ (y 0) (y 1) (y 2)).symm)
  refine (sAll_apply (iblk m c 0 (ptOf (flatRow (y 0) (y 1)))) (inOf (flatRow (y 0) (y 1))) (y 2)).trans ?_
  rw [winX_row m c (y 0) (y 1)]

/-- The packed codes returned are the reference's. -/
theorem codes_eq (c : Dev nD) : (shapeCast S4x3072x576 (cArr m c) shapeCasts_S12288x576_S4x3072x576 : S4x3072x576.Idx → BitVec 8)
    = Cert.ReferenceIdeal.Val.rByte (F := Ideal) (m ((c : Thread nD τ).loc main_arg0)) := by
  funext y
  rw [eq_ix3 y]
  refine (cast576 (cArr m c) (y 0) (y 1) (y 2)).trans (Eq.trans ?_ (Cert.ReferenceIdeal.Val.rByte_apply _ (y 0) (y 1) (y 2)).symm)
  refine (cAll_apply (iblk m c 0 (ptOf (flatRow (y 0) (y 1)))) (inOf (flatRow (y 0) (y 1))) (y 2)).trans ?_
  rw [winX_row m c (y 0) (y 1)]

/-- The product returned is the reference's. -/
theorem product_eq (c : Dev nD) : (shapeCast S4x3072x14464 (yArr m c) shapeCasts_S12288x14464_S4x3072x14464 : FVec Ideal S4x3072x14464 .bf16)
    = Cert.ReferenceIdeal.Val.rOut (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  funext y
  rw [eq_ix3 y]
  refine (cast14464 (yArr m c) (y 0) (y 1) (y 2)).trans (Eq.trans ?_ (Cert.ReferenceIdeal.Val.rOut_apply _ _ _ _ _ _ (y 0) (y 1) (y 2)).symm)
  refine Eq.trans (b := k0_pay3 (F := Ideal) (aAll (xp (iblk m c 0 (ptOf (flatRow (y 0) (y 1)))))
      (k0_pay2 (iblk m c 0 (ptOf (flatRow (y 0) (y 1)))) (m ((c : Thread nD τ).loc main_arg4))))
      (wAll (m ((c : Thread nD τ).loc main_arg1)) (m ((c : Thread nD τ).loc main_arg2)) (m ((c : Thread nD τ).loc main_arg3))
        (m ((c : Thread nD τ).loc main_arg5))) (ix2 (inOf (flatRow (y 0) (y 1))) (y 2))) ?_ ?_
  · rw [← iblk1 m c t0, ← iblk2 m c t0, ← iblk3 m c t0, ← iblk4 m c (ptOf (flatRow (y 0) (y 1))), ← iblk5 m c t0]
    rfl
  refine (out_apply _ _ _ _ _ _ _ _).trans ?_
  have hx := winX_row m c (y 0) (y 1)
  refine congrArg₂ (· + ·) (Finset.sum_congr rfl fun k _ => ?_) (Finset.sum_congr rfl fun j _ => ?_)
  · rw [hx]
    exact congrArg₂ (· * ·) (Cert.ReferenceIdeal.Val.rAct_apply _ (y 0) (y 1) k).symm
      (Cert.ReferenceIdeal.Val.rWt_apply _ _ _ k (y 2)).symm
  · refine congrArg₂ (· * ·) (Eq.trans (Finset.sum_congr rfl fun k _ => ?_) (Cert.ReferenceIdeal.Val.rLow_apply _ (y 0) (y 1) _ j).symm) rfl
    exact congrArg₂ (· * ·) (congrFun hx k) rfl

/-- The kernel's run: the three results as the reference's formulas of the launched arguments. -/
theorem results (ρ : Dev nD → PrngReg) : θ_run defs (onTc (τ := τ) (main (F := Ideal))) ⟨m, fun _ => 0, ρ⟩ (fun r => ∀ c : Dev nD,
      r.2.mem ((c.tc : Thread nD τ).loc main_v2) = Cert.ReferenceIdeal.Val.rOut (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      ∧ r.2.mem ((c.tc : Thread nD τ).loc main_v3) = Cert.ReferenceIdeal.Val.rByte (F := Ideal) (m ((c : Thread nD τ).loc main_arg0))
      ∧ r.2.mem ((c.tc : Thread nD τ).loc main_v4) = Cert.ReferenceIdeal.Val.rScale (F := Ideal) (m ((c : Thread nD τ).loc main_arg0))) :=
  (θ_run defs _ _).mono (fun r h c => ⟨
    ((h c).2 main_v2 (Pipeline.mem_restRefs_of main_v2 (by decide) (by decide))).trans ((tail2 m c).trans (product_eq m c)),
    ((h c).2 main_v3 (Pipeline.mem_restRefs_of main_v3 (by decide) (by decide))).trans ((tail3 m c).trans (codes_eq m c)),
    ((h c).2 main_v4 (Pipeline.mem_restRefs_of main_v4 (by decide) (by decide))).trans ((tail4 m c).trans (scales_eq m c))⟩) (run_main m ρ)

end Cert.KernelIdeal.Val

end
-- ==== Proof.Val.RefRun.lean ====
/- The reference's run, its results in the named pieces. -/
module

public import proofs.«01_k».proof.Proof.Val.Ref
public import proofs.«01_k».proof.Proof.Gen.ReferenceIdeal.Run

@[expose] public section

set_option maxRecDepth 16384

noncomputable section

namespace Cert.ReferenceIdeal.Val

open Cert.ReferenceIdeal Idealize.ShloMosaic Idealize.ShloMosaic.TcCoe Idealize.SL.Sem

variable (m : (ℓ : Loc nD τ sig) → Buf (Elt Ideal) ℓ)

/-- The first result, in the named pieces. -/
theorem product (c : Dev nD) : Cert.ReferenceIdeal.Value.res_main_v47 m c
    = rOut (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

/-- The reference's run: its three results as the named formulas of the launched arguments. -/
theorem results (ρ : Dev nD → PrngReg) : θ_run defs (onTc (τ := τ) (main (F := Ideal))) ⟨m, fun _ => 0, ρ⟩ (fun r => ∀ c : Dev nD,
      r.2.mem ((c.tc : Thread nD τ).loc main_v47) = rOut (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_v60) = rByte (F := Ideal) (m ((c.tc : Thread nD τ).loc main_arg0))
      ∧ r.2.mem ((c.tc : Thread nD τ).loc main_v8) = rScale (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (product m c), (h c).2.1, (h c).2.2.1, (h c).2.2.2⟩)
    (Cert.ReferenceIdeal.Value.run (F := Ideal) m ρ)

end Cert.ReferenceIdeal.Val

end
-- ==== Proof.Val.Same.lean ====
/- The kernel at bits and at ideal numbers is the same program. -/
module

public import proofs.«01_k».proof.Proof.Val.Launch
public import proofs.«01_k».proof.Defs
public import proofs.«01_k».proof.Proof.Gen.Kernel

@[expose] public section

set_option maxRecDepth 16384

noncomputable section

namespace Cert.Kernel.Val

open Idealize.ShloMosaic Idealize.ShloMosaic.TcCoe Idealize.SL.Sem

variable {F : FTy → Type} [FloatOps F]

/-- The two programs are one text. -/
theorem main_eq : (Cert.Kernel.main (F := F)) = (Cert.KernelIdeal.main (F := F)) := rfl

/-- So are their kernel bodies. -/
theorem body_eq : @Cert.Kernel.cc0_w4a4 F _ _ = @Cert.KernelIdeal.cc0_w4a4 F _ _ := rfl

/-- So are their tables of bodies. -/
theorem defs0_eq : (Cert.Kernel.defs₀ (F := F)) = (Cert.KernelIdeal.defs₀ (F := F)) := by
  unfold Cert.Kernel.defs₀ Cert.KernelIdeal.defs₀
  congr 1
  funext l a
  match l, a with
  | 0, (t, s) => exact congrFun (congrFun (congrFun (congrFun (congrFun (congrFun (congrFun (congrFun (congrFun (congrFun
      (congrFun (congrFun (congrFun (congrFun (congrFun (congrFun (congrFun (congrFun (congrFun (congrFun (congrFun (congrFun
      (congrFun body_eq _) _) _) _) _) _) _) _) _) _) _) _) _) _) _) _) _) _) _) _) _) _) _
  | ⟨_ + 1, h⟩, _ => exact absurd h (Nat.not_lt.2 (Nat.le_add_left _ _))

/-- So are their whole tables. -/
theorem defs_eq : (Cert.Kernel.defs (F := F)) = (Cert.KernelIdeal.defs (F := F)) :=
  congrArg (fun d => Pipeline.defs (Cert.KernelIdeal.pcfgs (F := F)) d) defs0_eq

open Cert.Kernel in
/-- The kernel leaves its arguments unchanged and every counter at zero: the statement proved for the idealized text, which is the same text. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [main_eq, defs_eq]
  exact Cert.KernelIdeal.Val.frame m ρ

end Cert.Kernel.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Val.Equal
public import proofs.«01_k».proof.Proof.Val.RefRun
public import proofs.«01_k».proof.Proof.Val.Same
public import Idealize.ShloMosaic.Lib.Claim
public import Idealize.ShloMosaic.Lib.Pointwise
public import Idealize.ShloMosaic.Lib.Pipeline.ValueKit
public import Idealize.ShloMosaic.Adequacy
public import Idealize.ShloMosaic.Init

@[expose] public section

noncomputable section

namespace Cert.Proof

open Idealize.ShloMosaic Idealize.SL.Sem Cert.Kernel

/-- The reference leaves its arguments unchanged and has no semaphore to leave up. -/
theorem ref_frame : Cert.quiescent_ReferenceIdeal (hReferenceIdeal := Cert.ReferenceIdeal.Gen.facts) := by
  intro m g _
  hlo_run
  · exact fun _ => ⟨trivial, trivial, trivial, trivial, trivial, trivial⟩
  · exact Idealize.ShloMosaic.sem_eq_zero_of_no_sems (show ReferenceIdeal.sig.nSem + ReferenceIdeal.sig.nDmaSem = 0 by decide) _

/-- From equal arguments, kernel and reference leave equal results: both leave the same formulas of the arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.ReferenceIdeal.Val.rOut (F := Ideal) (m ((c.tc : Thread KernelIdeal.nD KernelIdeal.τ).loc KernelIdeal.main_arg0))
      (m ((c.tc : Thread KernelIdeal.nD KernelIdeal.τ).loc KernelIdeal.main_arg1)) (m ((c.tc : Thread KernelIdeal.nD KernelIdeal.τ).loc KernelIdeal.main_arg2))
      (m ((c.tc : Thread KernelIdeal.nD KernelIdeal.τ).loc KernelIdeal.main_arg3)) (m ((c.tc : Thread KernelIdeal.nD KernelIdeal.τ).loc KernelIdeal.main_arg4))
      (m ((c.tc : Thread KernelIdeal.nD KernelIdeal.τ).loc KernelIdeal.main_arg5)),
    fun c => Cert.ReferenceIdeal.Val.rByte (F := Ideal) (m ((c.tc : Thread KernelIdeal.nD KernelIdeal.τ).loc KernelIdeal.main_arg0)),
    fun c => Cert.ReferenceIdeal.Val.rScale (F := Ideal) (m ((c.tc : Thread KernelIdeal.nD KernelIdeal.τ).loc KernelIdeal.main_arg0)), ?_, ?_⟩
  · refine (θ_run _ _ _).mono (fun r h c => ?_) (θ_run_and (Cert.KernelIdeal.Val.results m g) (Cert.KernelIdeal.Val.frame m g))
    obtain ⟨h1, h2, h3⟩ := h.1 c
    exact ⟨h1, h2, h3, h.2.1 c⟩
  · refine (θ_run _ _ _).mono (fun r h c => ?_) (Cert.ReferenceIdeal.Val.results m' g')
    obtain ⟨e0, e1, e2, e3, e4, e5⟩ := hagree c
    obtain ⟨h1, h2, h3, h4⟩ := h c
    refine ⟨h1.trans ?_, h2.trans ?_, h3.trans ?_, h4⟩
    · rw [e0, e1, e2, e3, e4, e5]
    · rw [e0]
    · rw [e0]

/-- The five claims. -/
theorem claim : Cert.Claim := ⟨Cert.Kernel.Gen.facts, Cert.KernelIdeal.Gen.facts, Cert.ReferenceIdeal.Gen.facts,
  fun m ρ _ => Cert.Kernel.Val.frame m ρ, fun m ρ _ => Cert.KernelIdeal.Val.frame m ρ, ref_frame, trivial, algebraic⟩

end Cert.Proof

end
